-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_and_in_vocab [hPre_finite_and_in_vocab : Cert.Pre_finite_and_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_vocab [hPre_finite_and_in_vocab : Cert.Pre_finite_and_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_vocab [hKernelIdeal : Cert.KernelIdeal.Facts] [hPre_finite_and_in_vocab : Cert.Pre_finite_and_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_vocab [hReferenceIdeal : Cert.ReferenceIdeal.Facts] [hPre_finite_and_in_vocab : Cert.Pre_finite_and_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "pen_down" .f32 0x3F555555#32 ((4194304 / 5033165 : ℝ) : EReal)

def algebraic_KernelIdeal_ReferenceIdeal_pre_finite_and_in_vocab [hKernelIdeal : Cert.KernelIdeal.Facts] [hReferenceIdeal : Cert.ReferenceIdeal.Facts] [hPre_finite_and_in_vocab : Cert.Pre_finite_and_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts) (hPre_finite_and_in_vocab : Cert.Pre_finite_and_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_KernelIdeal_pre_finite_and_in_vocab (hKernelIdeal := hKernelIdeal) (hPre_finite_and_in_vocab := hPre_finite_and_in_vocab)
    ∧ quiescent_ReferenceIdeal (hReferenceIdeal := hReferenceIdeal)
    ∧ quiescent_ReferenceIdeal_pre_finite_and_in_vocab (hReferenceIdeal := hReferenceIdeal) (hPre_finite_and_in_vocab := hPre_finite_and_in_vocab)
    ∧ preserves_Kernel_KernelIdeal
    ∧ algebraic_KernelIdeal_ReferenceIdeal_pre_finite_and_in_vocab (hKernelIdeal := hKernelIdeal) (hReferenceIdeal := hReferenceIdeal) (hPre_finite_and_in_vocab := hPre_finite_and_in_vocab)
-- ==== Pre_finite_and_in_vocab.lean ====
abbrev S32x1000000 : Shape := ⟨2, ![32, 1000000]⟩
abbrev S32x200 : Shape := ⟨2, ![32, 200]⟩
abbrev S_ : Shape := ⟨0, ![]⟩

class Facts : Prop where
  bcast_S_S32x1000000 : S_.BroadcastsInDim S32x1000000 (![] : Fin 0 → Fin S32x1000000.rank)
  bcast_S_S32x200 : S_.BroadcastsInDim S32x200 (![] : Fin 0 → Fin S32x200.rank)

variable [Facts]

def fn {F : FTy → Type} [FloatOps F] (main_arg0 : FVec F S32x1000000 .f32) (main_arg1 : IVec S32x200 32) : IVec S32x1000000 1 × IVec S32x200 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  let main_c : IVec S_ 32 := constantI S_ 32 0#32
  let main_v3 : IVec S32x200 32 := broadcastInDim S32x200 ![] bcast_S_S32x200 main_c
  let main_v4 : IVec S32x200 1 := cmpi .sge main_arg1 main_v3
  let main_c_0 : IVec S_ 32 := constantI S_ 32 1000000#32
  let main_v5 : IVec S32x200 32 := broadcastInDim S32x200 ![] bcast_S_S32x200 main_c_0
  let main_v6 : IVec S32x200 1 := cmpi .slt main_arg1 main_v5
  let main_v7 : IVec S32x200 1 := andi main_v4 main_v6
  (main_v2, main_v7)
-- ==== Pre_ids_in_vocab.lean ====
abbrev S32x1000000 : Shape := ⟨2, ![32, 1000000]⟩
abbrev S32x200 : Shape := ⟨2, ![32, 200]⟩
abbrev S_ : Shape := ⟨0, ![]⟩

class Facts : Prop where
  bcast_S_S32x200 : S_.BroadcastsInDim S32x200 (![] : Fin 0 → Fin S32x200.rank)

variable [Facts]

def fn {F : FTy → Type} [FloatOps F] (main_arg0 : FVec F S32x1000000 .f32) (main_arg1 : IVec S32x200 32) : IVec S32x200 1 :=
  let main_c : IVec S_ 32 := constantI S_ 32 0#32
  let main_v0 : IVec S32x200 32 := broadcastInDim S32x200 ![] bcast_S_S32x200 main_c
  let main_v1 : IVec S32x200 1 := cmpi .sge main_arg1 main_v0
  let main_c_0 : IVec S_ 32 := constantI S_ 32 1000000#32
  let main_v2 : IVec S32x200 32 := broadcastInDim S32x200 ![] bcast_S_S32x200 main_c_0
  let main_v3 : IVec S32x200 1 := cmpi .slt main_arg1 main_v2
  let main_v4 : IVec S32x200 1 := andi main_v1 main_v3
  main_v4
-- ==== Kernel.lean ====
abbrev S32x1000000 : Shape := ⟨2, ![32, 1000000]⟩
abbrev S32x200 : Shape := ⟨2, ![32, 200]⟩
abbrev S32x8 : Shape := ⟨2, ![32, 8]⟩
abbrev S32x8192 : Shape := ⟨2, ![32, 8192]⟩
abbrev S32x128 : Shape := ⟨2, ![32, 128]⟩
abbrev S32 : Shape := ⟨1, ![32]⟩
abbrev S1 : Shape := ⟨1, ![1]⟩
abbrev S1x1 : Shape := ⟨2, ![1, 1]⟩
abbrev S8x128 : Shape := ⟨2, ![8, 128]⟩
abbrev S32x1 : Shape := ⟨2, ![32, 1]⟩
abbrev S32x5 : Shape := ⟨2, ![32, 5]⟩
abbrev S32x10 : Shape := ⟨2, ![32, 10]⟩
abbrev S32x123 : Shape := ⟨2, ![32, 123]⟩
abbrev S32x3 : Shape := ⟨2, ![32, 3]⟩

abbrev nBuf : Space → Nat
  | .hbm => 7
  | .vmem => 9
  | .smem => 2
  | _ => 0

abbrev bufTy : (tb : Table) → Fin (tcTables nBuf tb) → BufTy
  | .hbm, ⟨0, _⟩ => ⟨S32x1000000, .f32⟩
  | .hbm, ⟨1, _⟩ => ⟨S32x200, .i32⟩
  | .hbm, ⟨2, _⟩ => ⟨S32x200, .i32⟩
  | .hbm, ⟨3, _⟩ => ⟨S32x8, .f32⟩
  | .hbm, ⟨4, _⟩ => ⟨S32x8, .i32⟩
  | .hbm, ⟨5, _⟩ => ⟨S32x5, .f32⟩
  | .hbm, ⟨6, _⟩ => ⟨S32x5, .i32⟩
  | .local _ .vmem, ⟨0, _⟩ => ⟨S32x8192, .f32⟩
  | .local _ .vmem, ⟨1, _⟩ => ⟨S32x8192, .f32⟩
  | .local _ .vmem, ⟨2, _⟩ => ⟨S32x8, .f32⟩
  | .local _ .vmem, ⟨3, _⟩ => ⟨S32x8, .i32⟩
  | .local _ .vmem, ⟨4, _⟩ => ⟨S32x8192, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .i32⟩
  | .local _ .smem, ⟨0, _⟩ => ⟨S32x200, .i32⟩
  | .local _ .smem, ⟨1, _⟩ => ⟨S32, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_stg0_0 : Ref sig .tc := ⟨.smem, 0, rfl⟩
abbrev cc0_scratch5 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![123], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_79 : BitVec 32 := 0#32
  let c32_i32_80 : BitVec 32 := 32#32
  let v191 : BitVec 32 := Scalar.addi c0_i32_79 c32_i32_80
  let c1_i32_81 : BitVec 32 := 1#32
  ⟨c0_i32_79, v191, c1_i32_81⟩
def k0_off1 (k0_t1 : Fin k0_t1_loop.trips) : Fin 1 → Nat :=
  let c0_i32_79 : BitVec 32 := 0#32
  let c1_i32_81 : BitVec 32 := 1#32
  let arg11 : BitVec 32 := Scf.iv c0_i32_79 c1_i32_81 k0_t1
  let v192 : Index := Scalar.indexCast arg11
  ![v192.toNat]
@[reducible] def k0_t2_loop : Scf.Loop 32 :=
  let c0_i32_5 : BitVec 32 := 0#32
  let c32_i32 : BitVec 32 := 32#32
  let v9 : BitVec 32 := Scalar.addi c0_i32_5 c32_i32
  let c1_i32 : BitVec 32 := 1#32
  ⟨c0_i32_5, v9, c1_i32⟩
def k0_off2 (k0_t2 : Fin k0_t2_loop.trips) : Fin 1 → Nat :=
  let c0_i32_5 : BitVec 32 := 0#32
  let c1_i32 : BitVec 32 := 1#32
  let arg11 : BitVec 32 := Scf.iv c0_i32_5 c1_i32 k0_t2
  let v175 : Index := Scalar.indexCast arg11
  ![v175.toNat]
def k0_off3 (k0_t2 : Fin k0_t2_loop.trips) (arg12 : BitVec 32) : Fin 2 → Nat :=
  let c0_i32_5 : BitVec 32 := 0#32
  let c1_i32 : BitVec 32 := 1#32
  let arg11 : BitVec 32 := Scf.iv c0_i32_5 c1_i32 k0_t2
  let v181 : Index := Scalar.indexCast arg11
  let c199_i32 : BitVec 32 := 199#32
  let v180 : BitVec 32 := Scalar.minsi arg12 c199_i32
  let v182 : Index := Scalar.indexCast v180
  ![v181.toNat, v182.toNat]

def k0_chk1 (k0_t2 : Fin k0_t2_loop.trips) (arg12 : BitVec 32) : Prop :=
  (∀ a, (k0_off3 k0_t2 arg12) a + S1x1.size a ≤ S32x200.size a)
theorem k0_off3_inb : ∀ (k0_t2 : Fin k0_t2_loop.trips) (arg12 : BitVec 32) (k0_hw1 : k0_chk1 k0_t2 arg12), ∀ a, (k0_off3 k0_t2 arg12) a + S1x1.size a ≤ S32x200.size a := fun k0_t2 arg12 k0_hw1 => k0_hw1

def k0_off4 (k0_t2 : Fin k0_t2_loop.trips) (arg12 : BitVec 32) : Fin 2 → Nat :=
  let c0_i32_5 : BitVec 32 := 0#32
  let c1_i32 : BitVec 32 := 1#32
  let arg11 : BitVec 32 := Scf.iv c0_i32_5 c1_i32 k0_t2
  let v180 : Index := Scalar.indexCast arg11
  let v181 : Index := Scalar.indexCast arg12
  ![v180.toNat, v181.toNat]

def k0_off5 (k0_t2 : Fin k0_t2_loop.trips) (arg12 : BitVec 32) : Fin 2 → Nat :=
  let c0_i32_5 : BitVec 32 := 0#32
  let c1_i32 : BitVec 32 := 1#32
  let arg11 : BitVec 32 := Scf.iv c0_i32_5 c1_i32 k0_t2
  let v185 : Index := Scalar.indexCast arg11
  let c1_i32_67 : BitVec 32 := 1#32
  let v183 : BitVec 32 := Scalar.maxsi arg12 c1_i32_67
  let c1_i32_68 : BitVec 32 := 1#32
  let v184 : BitVec 32 := Scalar.subi v183 c1_i32_68
  let v186 : Index := Scalar.indexCast v184
  ![v185.toNat, v186.toNat]

def k0_chk2 (k0_t2 : Fin k0_t2_loop.trips) (arg12 : BitVec 32) : Prop :=
  (∀ a, (k0_off4 k0_t2 arg12) a + S1x1.size a ≤ S32x200.size a) ∧
  (∀ a, (k0_off5 k0_t2 arg12) a + S1x1.size a ≤ S32x200.size a)
theorem k0_off4_inb : ∀ (k0_t2 : Fin k0_t2_loop.trips) (arg12 : BitVec 32) (k0_hw2 : k0_chk2 k0_t2 arg12), ∀ a, (k0_off4 k0_t2 arg12) a + S1x1.size a ≤ S32x200.size a := fun k0_t2 arg12 k0_hw2 => k0_hw2.1
theorem k0_off5_inb : ∀ (k0_t2 : Fin k0_t2_loop.trips) (arg12 : BitVec 32) (k0_hw2 : k0_chk2 k0_t2 arg12), ∀ a, (k0_off5 k0_t2 arg12) a + S1x1.size a ≤ S32x200.size a := fun k0_t2 arg12 k0_hw2 => k0_hw2.2

def k0_mult1 (i : grid0.Coords) (v182 : BitVec 32) : BitVec 32 :=
  let arg0 : BitVec 32 := BitVec.ofNat 32 (i 0).val
  let c8192_i32 : BitVec 32 := 8192#32
  let v7 : BitVec 32 := Scalar.muli arg0 c8192_i32
  let v195 : BitVec 32 := Scalar.subi v182 v7
  let c0_i32_72 : BitVec 32 := 0#32
  let v197 : BitVec 1 := Scalar.cmpi .sgt v195 c0_i32_72
  let v198 : BitVec 32 := Scalar.extui v197
  let c0_i32_73 : BitVec 32 := 0#32
  let v199 : BitVec 1 := Scalar.cmpi .slt v195 c0_i32_73
  let v200 : BitVec 32 := Scalar.extui v199
  let v201 : BitVec 32 := Scalar.subi v198 v200
  let c128_i32 : BitVec 32 := 128#32
  let c0_i32_74 : BitVec 32 := 0#32
  let v202 : BitVec 1 := Scalar.cmpi .sgt c128_i32 c0_i32_74
  let v203 : BitVec 32 := Scalar.extui v202
  let c0_i32_75 : BitVec 32 := 0#32
  let v204 : BitVec 1 := Scalar.cmpi .slt c128_i32 c0_i32_75
  let v205 : BitVec 32 := Scalar.extui v204
  let v206 : BitVec 32 := Scalar.subi v203 v205
  let v207 : BitVec 1 := Scalar.cmpi .ne v201 v206
  let v208 : BitVec 32 := Scalar.remsi v195 c128_i32
  let c0_i32_76 : BitVec 32 := 0#32
  let v209 : BitVec 1 := Scalar.cmpi .ne v208 c0_i32_76
  let v210 : BitVec 1 := Scalar.andi v207 v209
  let v196 : BitVec 32 := Scalar.divsi v195 c128_i32
  let c1_i32_77 : BitVec 32 := 1#32
  let v211 : BitVec 32 := Scalar.subi v196 c1_i32_77
  let v212 : BitVec 32 := Scalar.select v210 v211 v196
  let c128_i32_78 : BitVec 32 := 128#32
  let v213 : BitVec 32 := Scalar.muli v212 c128_i32_78
  v213
def k0_cond2 (arg12 : BitVec 32) (v182 : BitVec 32) (v187 : BitVec 32) : BitVec 1 :=
  let c0_i32_69 : BitVec 32 := 0#32
  let v188 : BitVec 1 := Scalar.cmpi .sgt arg12 c0_i32_69
  let v189 : BitVec 1 := Scalar.cmpi .eq v182 v187
  let v190 : BitVec 1 := Scalar.andi v188 v189
  let v_true : BitVec 1 := 1#1
  let v191 : BitVec 1 := Scalar.xori v190 v_true
  let v192 : BitVec 32 := Scalar.extui v191
  let c0_i32_70 : BitVec 32 := 0#32
  let v193 : BitVec 1 := Scalar.cmpi .ne v192 c0_i32_70
  v193

def k0_mult2 (k0_t2 : Fin k0_t2_loop.trips) : BitVec 32 :=
  let c0_i32_5 : BitVec 32 := 0#32
  let c1_i32 : BitVec 32 := 1#32
  let arg11 : BitVec 32 := Scf.iv c0_i32_5 c1_i32 k0_t2
  let c0_i32_85 : BitVec 32 := 0#32
  let v226 : BitVec 1 := Scalar.cmpi .sgt arg11 c0_i32_85
  let v227 : BitVec 32 := Scalar.extui v226
  let c0_i32_86 : BitVec 32 := 0#32
  let v228 : BitVec 1 := Scalar.cmpi .slt arg11 c0_i32_86
  let v229 : BitVec 32 := Scalar.extui v228
  let v230 : BitVec 32 := Scalar.subi v227 v229
  let c8_i32 : BitVec 32 := 8#32
  let c0_i32_87 : BitVec 32 := 0#32
  let v231 : BitVec 1 := Scalar.cmpi .sgt c8_i32 c0_i32_87
  let v232 : BitVec 32 := Scalar.extui v231
  let c0_i32_88 : BitVec 32 := 0#32
  let v233 : BitVec 1 := Scalar.cmpi .slt c8_i32 c0_i32_88
  let v234 : BitVec 32 := Scalar.extui v233
  let v235 : BitVec 32 := Scalar.subi v232 v234
  let v236 : BitVec 1 := Scalar.cmpi .ne v230 v235
  let v237 : BitVec 32 := Scalar.remsi arg11 c8_i32
  let c0_i32_89 : BitVec 32 := 0#32
  let v238 : BitVec 1 := Scalar.cmpi .ne v237 c0_i32_89
  let v239 : BitVec 1 := Scalar.andi v236 v238
  let v225 : BitVec 32 := Scalar.divsi arg11 c8_i32
  let c1_i32_90 : BitVec 32 := 1#32
  let v240 : BitVec 32 := Scalar.subi v225 c1_i32_90
  let v241 : BitVec 32 := Scalar.select v239 v240 v225
  let c8_i32_91 : BitVec 32 := 8#32
  let v242 : BitVec 32 := Scalar.muli v241 c8_i32_91
  v242
def k0_off6 (i : grid0.Coords) (k0_t2 : Fin k0_t2_loop.trips) (v182 : BitVec 32) : Fin 2 → Nat :=
  let c0_i32_5 : BitVec 32 := 0#32
  let c1_i32 : BitVec 32 := 1#32
  let arg11 : BitVec 32 := Scf.iv c0_i32_5 c1_i32 k0_t2
  let c0_i32_85 : BitVec 32 := 0#32
  let v226 : BitVec 1 := Scalar.cmpi .sgt arg11 c0_i32_85
  let v227 : BitVec 32 := Scalar.extui v226
  let c0_i32_86 : BitVec 32 := 0#32
  let v228 : BitVec 1 := Scalar.cmpi .slt arg11 c0_i32_86
  let v229 : BitVec 32 := Scalar.extui v228
  let v230 : BitVec 32 := Scalar.subi v227 v229
  let c8_i32 : BitVec 32 := 8#32
  let c0_i32_87 : BitVec 32 := 0#32
  let v231 : BitVec 1 := Scalar.cmpi .sgt c8_i32 c0_i32_87
  let v232 : BitVec 32 := Scalar.extui v231
  let c0_i32_88 : BitVec 32 := 0#32
  let v233 : BitVec 1 := Scalar.cmpi .slt c8_i32 c0_i32_88
  let v234 : BitVec 32 := Scalar.extui v233
  let v235 : BitVec 32 := Scalar.subi v232 v234
  let v236 : BitVec 1 := Scalar.cmpi .ne v230 v235
  let v237 : BitVec 32 := Scalar.remsi arg11 c8_i32
  let c0_i32_89 : BitVec 32 := 0#32
  let v238 : BitVec 1 := Scalar.cmpi .ne v237 c0_i32_89
  let v239 : BitVec 1 := Scalar.andi v236 v238
  let v225 : BitVec 32 := Scalar.divsi arg11 c8_i32
  let c1_i32_90 : BitVec 32 := 1#32
  let v240 : BitVec 32 := Scalar.subi v225 c1_i32_90
  let v241 : BitVec 32 := Scalar.select v239 v240 v225
  let c8_i32_91 : BitVec 32 := 8#32
  let v242 : BitVec 32 := Scalar.muli v241 c8_i32_91
  let v243 : BitVec 32 := v242
  let v254 : Index := Scalar.indexCast v243
  let arg0 : BitVec 32 := BitVec.ofNat 32 (i 0).val
  let c8192_i32 : BitVec 32 := 8192#32
  let v7 : BitVec 32 := Scalar.muli arg0 c8192_i32
  let v195 : BitVec 32 := Scalar.subi v182 v7
  let c0_i32_72 : BitVec 32 := 0#32
  let v197 : BitVec 1 := Scalar.cmpi .sgt v195 c0_i32_72
  let v198 : BitVec 32 := Scalar.extui v197
  let c0_i32_73 : BitVec 32 := 0#32
  let v199 : BitVec 1 := Scalar.cmpi .slt v195 c0_i32_73
  let v200 : BitVec 32 := Scalar.extui v199
  let v201 : BitVec 32 := Scalar.subi v198 v200
  let c128_i32 : BitVec 32 := 128#32
  let c0_i32_74 : BitVec 32 := 0#32
  let v202 : BitVec 1 := Scalar.cmpi .sgt c128_i32 c0_i32_74
  let v203 : BitVec 32 := Scalar.extui v202
  let c0_i32_75 : BitVec 32 := 0#32
  let v204 : BitVec 1 := Scalar.cmpi .slt c128_i32 c0_i32_75
  let v205 : BitVec 32 := Scalar.extui v204
  let v206 : BitVec 32 := Scalar.subi v203 v205
  let v207 : BitVec 1 := Scalar.cmpi .ne v201 v206
  let v208 : BitVec 32 := Scalar.remsi v195 c128_i32
  let c0_i32_76 : BitVec 32 := 0#32
  let v209 : BitVec 1 := Scalar.cmpi .ne v208 c0_i32_76
  let v210 : BitVec 1 := Scalar.andi v207 v209
  let v196 : BitVec 32 := Scalar.divsi v195 c128_i32
  let c1_i32_77 : BitVec 32 := 1#32
  let v211 : BitVec 32 := Scalar.subi v196 c1_i32_77
  let v212 : BitVec 32 := Scalar.select v210 v211 v196
  let c128_i32_78 : BitVec 32 := 128#32
  let v213 : BitVec 32 := Scalar.muli v212 c128_i32_78
  let v214 : BitVec 32 := v213
  let v255 : Index := Scalar.indexCast v214
  ![v254.toNat, v255.toNat]

def k0_chk3 (i : grid0.Coords) (k0_t2 : Fin k0_t2_loop.trips) (arg12 : BitVec 32) (v182 : BitVec 32) (v187 : BitVec 32) : Prop :=
  (∀ (k0_h2 : k0_cond2 arg12 v182 v187 = 1#1), 128 ∣ (k0_mult1 i v182).toNat) ∧
  (∀ (k0_h2 : k0_cond2 arg12 v182 v187 = 1#1), ∀ a, (k0_off6 i k0_t2 v182) a + S8x128.size a ≤ S32x8192.size a)
theorem k0_mult1_dvd : ∀ (i : grid0.Coords) (k0_t2 : Fin k0_t2_loop.trips) (arg12 : BitVec 32) (v182 : BitVec 32) (v187 : BitVec 32) (k0_hw3 : k0_chk3 i k0_t2 arg12 v182 v187), ∀ (k0_h2 : k0_cond2 arg12 v182 v187 = 1#1), 128 ∣ (k0_mult1 i v182).toNat := fun i k0_t2 arg12 v182 v187 k0_hw3 k0_h2 => k0_hw3.1 k0_h2
theorem k0_off6_inb : ∀ (i : grid0.Coords) (k0_t2 : Fin k0_t2_loop.trips) (arg12 : BitVec 32) (v182 : BitVec 32) (v187 : BitVec 32) (k0_hw3 : k0_chk3 i k0_t2 arg12 v182 v187), ∀ (k0_h2 : k0_cond2 arg12 v182 v187 = 1#1), ∀ a, (k0_off6 i k0_t2 v182) a + S8x128.size a ≤ S32x8192.size a := fun i k0_t2 arg12 v182 v187 k0_hw3 k0_h2 => k0_hw3.2 k0_h2

def k0_cond3 (i : grid0.Coords) : BitVec 1 :=
  let arg0 : BitVec 32 := BitVec.ofNat 32 (i 0).val
  let c122_i32 : BitVec 32 := 122#32
  let v172 : BitVec 1 := Scalar.cmpi .eq arg0 c122_i32
  let v173 : BitVec 32 := Scalar.extui v172
  let c0_i32_66 : BitVec 32 := 0#32
  let v174 : BitVec 1 := Scalar.cmpi .ne v173 c0_i32_66
  v174

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32x200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "pen_down" => some ((4194304 / 5033165 : ℝ) : EReal)
  | _ => none
-- ==== ReferenceIdeal.lean ====
abbrev S32x1000000 : Shape := ⟨2, ![32, 1000000]⟩
abbrev S32x200 : Shape := ⟨2, ![32, 200]⟩
abbrev S32 : Shape := ⟨1, ![32]⟩
abbrev S32x1 : Shape := ⟨2, ![32, 1]⟩
abbrev S_ : Shape := ⟨0, ![]⟩
abbrev S32x200x1 : Shape := ⟨3, ![32, 200, 1]⟩
abbrev S1 : Shape := ⟨1, ![1]⟩
abbrev S1x1x1 : Shape := ⟨3, ![1, 1, 1]⟩
abbrev S32x200x2 : Shape := ⟨3, ![32, 200, 2]⟩
abbrev S32x5 : Shape := ⟨2, ![32, 5]⟩

abbrev nBuf : Space → Nat
  | .hbm => 78
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x200, .i32⟩
  | .hbm, ⟨2, _⟩ => ⟨S32, .i32⟩
  | .hbm, ⟨3, _⟩ => ⟨S32x1, .i32⟩
  | .hbm, ⟨4, _⟩ => ⟨S_, .i32⟩
  | .hbm, ⟨5, _⟩ => ⟨S32x200, .i32⟩
  | .hbm, ⟨6, _⟩ => ⟨S32x200, .i1⟩
  | .hbm, ⟨7, _⟩ => ⟨S_, .i32⟩
  | .hbm, ⟨8, _⟩ => ⟨S32x200, .i32⟩
  | .hbm, ⟨9, _⟩ => ⟨S32x200, .i32⟩
  | .hbm, ⟨10, _⟩ => ⟨S32x200, .i32⟩
  | .hbm, ⟨11, _⟩ => ⟨S32x200x1, .i32⟩
  | .hbm, ⟨12, _⟩ => ⟨S1, .i32⟩
  | .hbm, ⟨13, _⟩ => ⟨S_, .i32⟩
  | .hbm, ⟨14, _⟩ => ⟨S32x200x1, .i32⟩
  | .hbm, ⟨15, _⟩ => ⟨S32x200x1, .i1⟩
  | .hbm, ⟨16, _⟩ => ⟨S1x1x1, .i32⟩
  | .hbm, ⟨17, _⟩ => ⟨S32x200x1, .i32⟩
  | .hbm, ⟨18, _⟩ => ⟨S32x200x1, .i1⟩
  | .hbm, ⟨19, _⟩ => ⟨S32x200x1, .i1⟩
  | .hbm, ⟨20, _⟩ => ⟨S_, .i1⟩
  | .hbm, ⟨21, _⟩ => ⟨S32x200, .i1⟩
  | .hbm, ⟨22, _⟩ => ⟨S32x200, .f32⟩
  | .hbm, ⟨23, _⟩ => ⟨S_, .f32⟩
  | .hbm, ⟨24, _⟩ => ⟨S32x200, .f32⟩
  | .hbm, ⟨25, _⟩ => ⟨S32x200, .f32⟩
  | .hbm, ⟨26, _⟩ => ⟨S_, .f32⟩
  | .hbm, ⟨27, _⟩ => ⟨S32x200, .f32⟩
  | .hbm, ⟨28, _⟩ => ⟨S32x200, .i1⟩
  | .hbm, ⟨29, _⟩ => ⟨S32x200, .f32⟩
  | .hbm, ⟨30, _⟩ => ⟨S_, .f32⟩
  | .hbm, ⟨31, _⟩ => ⟨S32x200, .f32⟩
  | .hbm, ⟨32, _⟩ => ⟨S32x200, .f32⟩
  | .hbm, ⟨33, _⟩ => ⟨S_, .f32⟩
  | .hbm, ⟨34, _⟩ => ⟨S32x200, .f32⟩
  | .hbm, ⟨35, _⟩ => ⟨S32x200, .f32⟩
  | .hbm, ⟨36, _⟩ => ⟨S32x200, .f32⟩
  | .hbm, ⟨37, _⟩ => ⟨S_, .f32⟩
  | .hbm, ⟨38, _⟩ => ⟨S32x200, .f32⟩
  | .hbm, ⟨39, _⟩ => ⟨S32x200, .f32⟩
  | .hbm, ⟨40, _⟩ => ⟨S32x200, .f32⟩
  | .hbm, ⟨41, _⟩ => ⟨S32x200, .f32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S32x1, .i32⟩
  | .hbm, ⟨49, _⟩ => ⟨S_, .i32⟩
  | .hbm, ⟨50, _⟩ => ⟨S32x200, .i32⟩
  | .hbm, ⟨51, _⟩ => ⟨S32x200, .i1⟩
  | .hbm, ⟨52, _⟩ => ⟨S_, .i32⟩
  | .hbm, ⟨53, _⟩ => ⟨S32x200, .i32⟩
  | .hbm, ⟨54, _⟩ => ⟨S32x200, .i32⟩
  | .hbm, ⟨55, _⟩ => ⟨S32x200, .i32⟩
  | .hbm, ⟨56, _⟩ => ⟨S32x200, .i32⟩
  | .hbm, ⟨57, _⟩ => ⟨S32x200x1, .i32⟩
  | .hbm, ⟨58, _⟩ => ⟨S32x200x1, .i32⟩
  | .hbm, ⟨59, _⟩ => ⟨S32x200x2, .i32⟩
  | .hbm, ⟨60, _⟩ => ⟨S32x1000000, .f32⟩
  | .hbm, ⟨61, _⟩ => ⟨S_, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32x1, .f32⟩
  | .hbm, ⟨67, _⟩ => ⟨S32x1000000, .f32⟩
  | .hbm, ⟨68, _⟩ => ⟨S32x1000000, .f32⟩
  | .hbm, ⟨69, _⟩ => ⟨S32x1000000, .f32⟩
  | .hbm, ⟨70, _⟩ => ⟨S_, .f32⟩
  | .hbm, ⟨71, _⟩ => ⟨S32, .f32⟩
  | .hbm, ⟨72, _⟩ => ⟨S32x1, .f32⟩
  | .hbm, ⟨73, _⟩ => ⟨S32x1, .f32⟩
  | .hbm, ⟨74, _⟩ => ⟨S32x1000000, .f32⟩
  | .hbm, ⟨75, _⟩ => ⟨S32x1000000, .f32⟩
  | .hbm, ⟨76, _⟩ => ⟨S32x5, .f32⟩
  | .hbm, ⟨77, _⟩ => ⟨S32x5, .i32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v30 : Ref sig .tc := ⟨.hbm, 75, rfl⟩
abbrev main_values : Ref sig .tc := ⟨.hbm, 76, rfl⟩
abbrev main_indices : Ref sig .tc := ⟨.hbm, 77, rfl⟩

abbrev nD : Nat := 1
abbrev τ : Topo := Topo.v7x

variable {F : FTy → Type} [FloatOps F]
-- ==== Proof.Words.lean ====
/-
  Words: the integer arithmetic of the kernel's scalar code, on words that are small naturals. Division and remainder by a
  positive constant, the floor division and the remainder jnp lowers to (`sign`-corrected) at a nonnegative word, and the
  comparisons the loop's test makes. Nothing here mentions a kernel.
-/
module

public import Idealize.ShloMosaic.Lib.WordArith
public import Idealize.ShloMosaic.Lib.WordCmp

@[expose] public section

namespace Cert.Proof.Words

open Idealize.ShloMosaic Idealize.ShloMosaic.WordArith Idealize.ShloMosaic.WordCmp

/-- A small natural's word, signed, is the natural. -/
theorem toInt_small (n : ℕ) (h : n < 2 ^ 31) : (BitVec.ofNat 32 n).toInt = n := toInt_ofNat_small n h

/-- A small natural's word, unsigned, is the natural. -/
theorem toNat_small (n : ℕ) (h : n < 2 ^ 31) : (BitVec.ofNat 32 n).toNat = n := by
  rw [BitVec.toNat_ofNat, Nat.mod_eq_of_lt (by omega)]

/-- Two words are equal when their signed values are. -/
theorem eq_of_toInt {x y : BitVec 32} (h : x.toInt = y.toInt) : x = y := BitVec.eq_of_toInt_eq h

/-- Signed division of small naturals is the natural's. -/
theorem divsi_small (d n : ℕ) (hd : d < 2 ^ 31) (h0 : 0 < n) (hn : n < 2 ^ 31) :
    Scalar.divsi (BitVec.ofNat 32 d) (BitVec.ofNat 32 n) = BitVec.ofNat 32 (d / n) := by
  have hD := toNat_small d hd
  have hN := toNat_small n hn
  have hc : ¬ IntOp.SDivCorner (BitVec.ofNat 32 d) (BitVec.ofNat 32 n) := by
    unfold IntOp.SDivCorner
    rintro (h | ⟨-, h⟩)
    · have := congrArg BitVec.toNat h; rw [hN] at this; simp at this; omega
    · have := congrArg BitVec.toNat h; rw [hN] at this; simp at this; omega
  unfold Scalar.divsi IntOp.divsi
  rw [if_neg hc]
  apply eq_of_toInt
  rw [BitVec.toInt_sdiv_of_ne_or_ne, toInt_small d hd, toInt_small n hn, toInt_small (d / n) (lt_of_le_of_lt (Nat.div_le_self _ _) hd)]
  · norm_cast
  · right; intro h
    have := congrArg BitVec.toNat h; rw [hN] at this; simp at this; omega

/-- Signed remainder of small naturals is the natural's. -/
theorem remsi_small (d n : ℕ) (hd : d < 2 ^ 31) (h0 : 0 < n) (hn : n < 2 ^ 31) :
    Scalar.remsi (BitVec.ofNat 32 d) (BitVec.ofNat 32 n) = BitVec.ofNat 32 (d % n) := by
  have hN := toNat_small n hn
  have hc : ¬ IntOp.SDivCorner (BitVec.ofNat 32 d) (BitVec.ofNat 32 n) := by
    unfold IntOp.SDivCorner
    rintro (h | ⟨-, h⟩)
    · have := congrArg BitVec.toNat h; rw [hN] at this; simp at this; omega
    · have := congrArg BitVec.toNat h; rw [hN] at this; simp at this; omega
  unfold Scalar.remsi IntOp.remsi
  rw [if_neg hc]
  apply eq_of_toInt
  rw [BitVec.toInt_srem, toInt_small d hd, toInt_small n hn, toInt_small (d % n) (lt_of_le_of_lt (Nat.mod_le _ _) hd)]
  norm_cast

/-- The signed comparison of small naturals' words. -/
theorem slt_small (a b : ℕ) (ha : a < 2 ^ 31) (hb : b < 2 ^ 31) :
    Scalar.cmpi .slt (BitVec.ofNat 32 a) (BitVec.ofNat 32 b) = if a < b then 1#1 else 0#1 := by
  show IntOp.cmpi .slt _ _ = _
  rw [cmpi_slt_eq, toInt_small a ha, toInt_small b hb, ofBool_decide_eq_ite]
  simp

/-- The same, the other way. -/
theorem sgt_small (a b : ℕ) (ha : a < 2 ^ 31) (hb : b < 2 ^ 31) :
    Scalar.cmpi .sgt (BitVec.ofNat 32 a) (BitVec.ofNat 32 b) = if b < a then 1#1 else 0#1 := by
  show IntOp.cmpi .sgt _ _ = _
  rw [cmpi_sgt_eq, toInt_small a ha, toInt_small b hb, ofBool_decide_eq_ite]
  simp

/-- A difference of small naturals' words that does not go below zero. -/
theorem subi_small (a b : ℕ) (h : b ≤ a) :
    Scalar.subi (BitVec.ofNat 32 a) (BitVec.ofNat 32 b) = BitVec.ofNat 32 (a - b) := by
  show BitVec.ofNat 32 a - BitVec.ofNat 32 b = _
  obtain ⟨k, rfl⟩ := Nat.exists_eq_add_of_le h
  rw [BitVec.ofNat_add, BitVec.add_comm, BitVec.add_sub_cancel, Nat.add_sub_cancel_left]

/-- The floor division jnp lowers to (the truncated quotient, less one where the signs differ and the remainder is not
    zero), at a nonnegative word and a positive divisor: the natural's. -/
theorem floordiv_small (d n : ℕ) (hd : d < 2 ^ 31) (h0 : 0 < n) (hn : n < 2 ^ 31) :
    Scalar.select
      (Scalar.andi
        (Scalar.cmpi .ne
          (Scalar.subi (Scalar.extui (Scalar.cmpi .sgt (BitVec.ofNat 32 d) 0#32)) (Scalar.extui (Scalar.cmpi .slt (BitVec.ofNat 32 d) 0#32)))
          (Scalar.subi (Scalar.extui (Scalar.cmpi .sgt (BitVec.ofNat 32 n) 0#32)) (Scalar.extui (Scalar.cmpi .slt (BitVec.ofNat 32 n) 0#32))))
        (Scalar.cmpi .ne (Scalar.remsi (BitVec.ofNat 32 d) (BitVec.ofNat 32 n)) 0#32))
      (Scalar.subi (Scalar.divsi (BitVec.ofNat 32 d) (BitVec.ofNat 32 n)) 1#32)
      (Scalar.divsi (BitVec.ofNat 32 d) (BitVec.ofNat 32 n)) = BitVec.ofNat 32 (d / n) := by
  have e0 : (0#32 : BitVec 32) = BitVec.ofNat 32 0 := rfl
  have h1 := sgt_small d 0 hd (by omega)
  have h2 := slt_small d 0 hd (by omega)
  have h3 := sgt_small n 0 hn (by omega)
  have h4 := slt_small n 0 hn (by omega)
  have h5 := remsi_small d n hd h0 hn
  rw [e0, h1, h2, h3, h4, h5, divsi_small d n hd h0 hn, if_neg (Nat.not_lt_zero _), if_neg (Nat.not_lt_zero _), if_pos h0]
  by_cases hz : d = 0
  · subst hz
    rw [Nat.zero_mod, Nat.zero_div]
    decide
  · rw [if_pos (Nat.pos_of_ne_zero hz)]
    apply select_of_eq_zero
    show IntOp.andi (IntOp.cmpi .ne _ _) _ = _
    rw [cmpi_ne_eq]
    simp [IntOp.andi]

/-- The remainder jnp lowers to (the truncated remainder, corrected by the divisor where its sign differs from the
    divisor's), at a nonnegative word and a positive divisor: the natural's. -/
theorem mod_small (d n : ℕ) (hd : d < 2 ^ 31) (h0 : 0 < n) (hn : n < 2 ^ 31) :
    Scalar.select
      (Scalar.andi
        (Scalar.xori (Scalar.cmpi .slt (Scalar.remsi (BitVec.ofNat 32 d) (BitVec.ofNat 32 n)) 0#32) (Scalar.cmpi .slt (BitVec.ofNat 32 n) 0#32))
        (Scalar.cmpi .ne (Scalar.remsi (BitVec.ofNat 32 d) (BitVec.ofNat 32 n)) 0#32))
      (Scalar.addi (Scalar.remsi (BitVec.ofNat 32 d) (BitVec.ofNat 32 n)) (BitVec.ofNat 32 n))
      (Scalar.remsi (BitVec.ofNat 32 d) (BitVec.ofNat 32 n)) = BitVec.ofNat 32 (d % n) := by
  have e0 : (0#32 : BitVec 32) = BitVec.ofNat 32 0 := rfl
  have hm : d % n < 2 ^ 31 := lt_of_le_of_lt (Nat.mod_le _ _) hd
  rw [remsi_small d n hd h0 hn, e0, slt_small _ 0 hm (by omega), slt_small n 0 hn (by omega),
    if_neg (Nat.not_lt_zero _), if_neg (Nat.not_lt_zero _)]
  apply select_of_eq_zero
  show IntOp.andi (IntOp.xori 0#1 0#1) _ = _
  simp [IntOp.andi, IntOp.xori]

end Cert.Proof.Words
-- ==== Proof.SortIds.lean ====
/-
  Sorting the token ids of each row. Sorting a [32, 200] table of small words along its rows keeps each row's set of
  words, and leaves every row in nondecreasing order.
-/
module

public import proofs.«01_k».proof.Proof.Words
public import Idealize.ShloMosaic.Lib.SortFacts
public import Idealize.ShloMosaic.Lib.ValueIdx

@[expose] public section

namespace Cert.Proof.SortIds

open Idealize.ShloMosaic Idealize.ShloMosaic.ValueIdx Cert.Proof.Words

/-- The table's shape. -/
abbrev Sh : Shape := ⟨2, ![32, 200]⟩

/-- The order of signed words. -/
abbrev lt32 : BitVec 32 → BitVec 32 → BitVec 1 := fun l r => IntOp.cmpi .slt l r

/-- The position of row `r` whose word the sort puts at position `q`. -/
def src (x : Sh.Idx → BitVec 32) (r : Fin 32) (q : Fin 200) : Fin 200 :=
  sortedFrom (fun k k' : Fin 200 => lt32 (x (ix2 r k)) (x (ix2 r k')) == 1#1) q

theorem sort_apply (x : Sh.Idx → BitVec 32) (r : Fin 32) (q : Fin 200) :
    Host.sort Sh 1 lt32 x (ix2 r q) = x (ix2 r (src x r q)) := by
  have h (k : Fin 200) : ((ix2 r q : Sh.Idx).along (1 : Fin 2) k) = ix2 r k := by
    funext a
    match a with
    | ⟨0, _⟩ => rfl
    | ⟨1, _⟩ => rfl
  have e : (fun k k' : Fin 200 => lt32 (x ((ix2 r q : Sh.Idx).along (1 : Fin 2) k)) (x ((ix2 r q : Sh.Idx).along (1 : Fin 2) k')) == 1#1)
      = fun k k' : Fin 200 => lt32 (x (ix2 r k)) (x (ix2 r k')) == 1#1 :=
    funext fun k => funext fun k' => congrArg₂ (fun a b : Sh.Idx => lt32 (x a) (x b) == 1#1) (h k) (h k')
  exact (congrArg x (h _)).trans (congrArg (fun B : Fin 200 → Fin 200 → Bool => x (ix2 r (sortedFrom B q))) e)

/-- The comparison of two words below 1000000 is the comparison of the naturals. -/
theorem lt32_iff {a b : BitVec 32} (ha : a.toNat < 1000000) (hb : b.toNat < 1000000) : lt32 a b = 1#1 ↔ a.toNat < b.toNat := by
  have h := slt_small a.toNat b.toNat (by omega) (by omega)
  rw [BitVec.ofNat_toNat, BitVec.ofNat_toNat, BitVec.setWidth_eq, BitVec.setWidth_eq] at h
  have h' : lt32 a b = if a.toNat < b.toNat then 1#1 else 0#1 := h
  rw [h']
  by_cases hc : a.toNat < b.toNat
  · simp [hc]
  · simp [hc]

/-- Sorted rows are in nondecreasing order. -/
theorem sort_mono (x : Sh.Idx → BitVec 32) (hx : ∀ j, (x j).toNat < 1000000) (r : Fin 32) (p q : Fin 200) (h : p ≤ q) :
    (Host.sort Sh 1 lt32 x (ix2 r p)).toNat ≤ (Host.sort Sh 1 lt32 x (ix2 r q)).toNat := by
  rcases eq_or_lt_of_le h with rfl | hlt
  · exact le_refl _
  rw [sort_apply, sort_apply]
  have hdec (k k' : Fin 200) : (lt32 (x (ix2 r k)) (x (ix2 r k')) == 1#1) = decide ((x (ix2 r k)).toNat < (x (ix2 r k')).toNat) := by
    rw [Bool.eq_iff_iff, beq_iff_eq, decide_eq_true_eq]
    exact lt32_iff (hx _) (hx _)
  have hs := sortedFrom_noInversion (fun k k' : Fin 200 => lt32 (x (ix2 r k)) (x (ix2 r k')) == 1#1)
    (fun k k' : Fin 200 => lt32 (x (ix2 r k)) (x (ix2 r k')) == 1#1)
    (by intro a b; simp only [hdec, decide_eq_true_eq, decide_eq_false_iff_not]; omega)
    (fun _ _ h => h)
    (by intro a b c; simp only [hdec, decide_eq_false_iff_not]; omega) p q hlt
  rw [hdec, decide_eq_false_iff_not] at hs
  exact Nat.le_of_not_lt hs

/-- A row holds the same words sorted as unsorted. -/
theorem sort_mem (x : Sh.Idx → BitVec 32) (r : Fin 32) (v : BitVec 32) :
    (∃ q : Fin 200, Host.sort Sh 1 lt32 x (ix2 r q) = v) ↔ ∃ q : Fin 200, x (ix2 r q) = v := by
  constructor
  · rintro ⟨q, rfl⟩
    exact ⟨src x r q, (sort_apply x r q).symm⟩
  · rintro ⟨q, rfl⟩
    obtain ⟨k, hk⟩ := sortedFrom_surjective (fun k k' : Fin 200 => lt32 (x (ix2 r k)) (x (ix2 r k')) == 1#1) q
    exact ⟨k, (sort_apply x r k).trans (congrArg (fun z => x (ix2 r z)) hk)⟩

end Cert.Proof.SortIds

end
-- ==== Proof.K.Ids.lean ====
/-
  The precondition gives the kernel sorted ids: ids in the vocabulary are words below 1000000, and the host sorts each row
  of them before the kernel.
-/
module

public import proofs.«01_k».proof.Defs
public import proofs.«01_k».proof.Proof.SortIds
public import proofs.«01_k».proof.Proof.K.Data
public import proofs.«01_k».proof.Proof.Gen.Pre_ids_in_vocab

@[expose] public section

noncomputable section

namespace Cert.Proof.K

open Cert.Kernel Cert.Kernel.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (c : Dev nD)

/-- The ids the kernel is given are the launched ones sorted. -/
theorem ids_eq : ids m c = Host.sort S32x200 1 comparator_i32_d1 (m ((c : Thread nD τ).loc main_arg1)) := by
  unfold ids V₀
  simp only [hostOps0, StableHlo.after_cons, StableHlo.after_nil]
  exact StableHlo.unary_result _ _ _ _ _ _

/-- Ids in the vocabulary, sorted, are what the kernel asks of its ids. -/
theorem sorted_ids (h : ∀ j : S32x200.Idx, (m ((c : Thread nD τ).loc main_arg1) j : BitVec 32).toNat < 1000000) : Sorted (ids m c) := by
  constructor
  · intro j
    rw [ids_eq, eq_ix2 j]
    exact (congrArg BitVec.toNat (SortIds.sort_apply (m ((c : Thread nD τ).loc main_arg1)) (j 0) (j 1))).trans_lt (h _)
  · intro r p q hpq
    rw [ids_eq]
    exact SortIds.sort_mono (m ((c : Thread nD τ).loc main_arg1)) h r p q hpq

/-- The printed predicate, all ones, says that every id is a column. -/
theorem ids_lt (x : S32x1000000.Idx → Elt F .f32) (y : S32x200.Idx → BitVec 32)
    (h : Cert.Pre_ids_in_vocab.fn (F := F) x y = fun _ => 1#1) (j : S32x200.Idx) : (y j).toNat < 1000000 := by
  have andi_one (a b : BitVec 1) : IntOp.andi a b = 1#1 ↔ a = 1#1 ∧ b = 1#1 := by revert a b; decide
  have hj := congrFun h j
  simp only [Cert.Pre_ids_in_vocab.fn, constantI, broadcastInDim, cmpi, andi, andi_one] at hj
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at hj
  have := (y j).isLt
  obtain ⟨h1, h2⟩ := hj
  split at h1 <;> omega

end Cert.Proof.K

end
-- ==== Proof.K.Frame.lean ====
/-
  The frame: with ids in the vocabulary the program runs, and leaves its arguments and the semaphores as they were.
-/
module

public import proofs.«01_k».proof.Proof.K.Run
public import proofs.«01_k».proof.Proof.K.Ids

@[expose] public section

noncomputable section

namespace Cert.Proof.K

open Idealize.ShloMosaic Idealize.ShloMosaic.TcCoe Idealize.SL.Sem

/-- The run from ids in the vocabulary: the arguments end unchanged and every semaphore reads zero. -/
theorem frame : Cert.quiescent_Kernel := fun m g hpre =>
  (θ_run Cert.Kernel.defs _ _).mono (fun _ h => ⟨fun c => (h.1 c).2.2, h.2⟩)
    (run (F := Bits) m g fun c => sorted_ids m c (ids_lt _ _ (hpre c)))

end Cert.Proof.K

end
-- ==== Proof.KI.Offsets.lean ====
/-
  The kernel's scalar chains at the words the run meets: the trip `k` of the row loop, a pointer `p` into row `k` of the
  sorted ids, a token `T` of the vocabulary block `b`. Each printed offset and check is here at the natural numbers it computes.
-/
module

public import proofs.«01_k».proof.KernelIdeal
public import proofs.«01_k».proof.Proof.Gen.KernelIdeal
public import proofs.«01_k».proof.Proof.Gen.KernelIdeal.Skeleton
public import proofs.«01_k».proof.Proof.Words
public import Idealize.ShloMosaic.PureOps.Ideal

@[expose] public section

namespace Cert.Proof.KI

open Cert.KernelIdeal Cert.KernelIdeal.Gen
open Idealize.ShloMosaic Cert.Proof.Words

/-- The row loop makes 32 trips. -/
theorem trips_t2 : k0_t2_loop.trips = 32 := by decide

theorem lt_t2 (k : Fin k0_t2_loop.trips) : k.val < 32 := lt_of_lt_of_eq k.isLt trips_t2

/-- So does the loop that clears the pointers. -/
theorem trips_t1 : k0_t1_loop.trips = 32 := by decide

theorem lt_t1 (k : Fin k0_t1_loop.trips) : k.val < 32 := lt_of_lt_of_eq k.isLt trips_t1

/-- The induction variable at trip `k` is `k`'s word. -/
theorem iv_eq (k : ℕ) (h : k < 32) : Scf.iv 0#32 1#32 k = BitVec.ofNat 32 k := by
  interval_cases k <;> decide

/-- The grid's coordinate at point `t` is `t`. -/
theorem coords_val (t : Fin grid0.N) : (grid0.coords t 0).val = t.val := by
  have h : ∀ t : Fin grid0.N, (grid0.coords t 0).val = t.val := by decide
  exact h t

/-- The first columns of block `b`, as the kernel computes it. -/
theorem base_eq (b : ℕ) : Scalar.muli (BitVec.ofNat 32 b) 8192#32 = BitVec.ofNat 32 (b * 8192) := by
  show BitVec.ofNat 32 b * BitVec.ofNat 32 8192 = _
  rw [← BitVec.ofNat_mul]

/-- The offset of the test's read: row `k`, the pointer clamped to the last position. -/
theorem off3_eq (k : Fin k0_t2_loop.trips) (p : ℕ) (hp : p ≤ 200) :
    k0_off3 k (BitVec.ofNat 32 p) = ![k.val, min p 199] := by
  have hk : k.val < 32 := lt_t2 k
  unfold k0_off3
  dsimp only
  rw [iv_eq k.val hk]
  have h1 : (Scalar.indexCast (BitVec.ofNat 32 k.val) : BitVec 32).toNat = k.val := by
    show (BitVec.ofNat 32 k.val).toNat = _
    exact toNat_small _ (by omega)
  have h2 : (Scalar.indexCast (Scalar.minsi (BitVec.ofNat 32 p) 199#32) : BitVec 32).toNat = min p 199 := by
    have e := WordArith.toNat_minsi_of_lt (BitVec.ofNat 32 p) (BitVec.ofNat 32 199) (by rw [toNat_small p (by omega)]; omega) (by decide)
    rw [toNat_small p (by omega)] at e
    exact e
  rw [h1, h2]

/-- The offset of the read of the token: row `k`, position `p`. -/
theorem off4_eq (k : Fin k0_t2_loop.trips) (p : ℕ) (hp : p < 200) :
    k0_off4 k (BitVec.ofNat 32 p) = ![k.val, p] := by
  have hk : k.val < 32 := lt_t2 k
  unfold k0_off4
  dsimp only
  rw [iv_eq k.val hk]
  have h1 : (Scalar.indexCast (BitVec.ofNat 32 k.val) : BitVec 32).toNat = k.val := toNat_small _ (by omega)
  have h2 : (Scalar.indexCast (BitVec.ofNat 32 p) : BitVec 32).toNat = p := toNat_small _ (by omega)
  rw [h1, h2]

/-- The offset of the read of the token before it: row `k`, position `p - 1` (`0` at the first). -/
theorem off5_eq (k : Fin k0_t2_loop.trips) (p : ℕ) (hp : p < 200) :
    k0_off5 k (BitVec.ofNat 32 p) = ![k.val, max p 1 - 1] := by
  have hk : k.val < 32 := lt_t2 k
  unfold k0_off5
  dsimp only
  rw [iv_eq k.val hk]
  have h1 : (Scalar.indexCast (BitVec.ofNat 32 k.val) : BitVec 32).toNat = k.val := toNat_small _ (by omega)
  have h3 : Scalar.maxsi (BitVec.ofNat 32 p) 1#32 = BitVec.ofNat 32 (max p 1) := by
    revert p; intro p hp; interval_cases p <;> decide
  have h2 : (Scalar.indexCast (Scalar.subi (Scalar.maxsi (BitVec.ofNat 32 p) 1#32) 1#32) : BitVec 32).toNat = max p 1 - 1 := by
    rw [h3, show (1#32 : BitVec 32) = BitVec.ofNat 32 1 from rfl, subi_small _ _ (by omega)]
    exact toNat_small _ (by omega)
  rw [h1, h2]

/-- The reads stay inside the ids. -/
theorem chk1_of (k : Fin k0_t2_loop.trips) (p : ℕ) (hp : p ≤ 200) : k0_chk1 k (BitVec.ofNat 32 p) := by
  have hk : k.val < 32 := lt_t2 k
  unfold k0_chk1
  rw [off3_eq k p hp]
  intro a
  fin_cases a
  · show k.val + 1 ≤ 32; omega
  · show min p 199 + 1 ≤ 200; omega

theorem chk2_of (k : Fin k0_t2_loop.trips) (p : ℕ) (hp : p < 200) : k0_chk2 k (BitVec.ofNat 32 p) := by
  have hk : k.val < 32 := lt_t2 k
  unfold k0_chk2
  rw [off4_eq k p hp, off5_eq k p hp]
  constructor <;> intro a <;> fin_cases a
  · show k.val + 1 ≤ 32; omega
  · show p + 1 ≤ 200; omega
  · show k.val + 1 ≤ 32; omega
  · show max p 1 - 1 + 1 ≤ 200; omega

/-- The token's column in its block, as a word. -/
theorem rel_eq (i : grid0.Coords) (T : BitVec 32) (d : ℕ) (hT : T.toNat = (i 0).val * 8192 + d) :
    Scalar.subi T (Scalar.muli (BitVec.ofNat 32 (i 0).val) 8192#32) = BitVec.ofNat 32 d := by
  rw [base_eq, show T = BitVec.ofNat 32 ((i 0).val * 8192 + d) from by rw [← hT, BitVec.ofNat_toNat, BitVec.setWidth_eq],
    subi_small _ _ (by omega), Nat.add_sub_cancel_left]

/-- The tile's first column: the token's column rounded down to a multiple of 128. -/
theorem mult1_eq (i : grid0.Coords) (T : BitVec 32) (d : ℕ) (hd : d < 8192) (hT : T.toNat = (i 0).val * 8192 + d) :
    k0_mult1 i T = BitVec.ofNat 32 (d / 128 * 128) := by
  unfold k0_mult1
  dsimp only
  rw [rel_eq i T d hT]
  have h := floordiv_small d 128 (by omega) (by omega) (by omega)
  refine (congrArg (fun z => Scalar.muli z 128#32) h).trans ?_
  show BitVec.ofNat 32 (d / 128) * BitVec.ofNat 32 128 = _
  rw [← BitVec.ofNat_mul]

/-- The tile of row `k` and the token: rows rounded down to a multiple of 8, columns to one of 128. -/
theorem off6_eq (i : grid0.Coords) (k : Fin k0_t2_loop.trips) (T : BitVec 32) (d : ℕ) (hd : d < 8192)
    (hT : T.toNat = (i 0).val * 8192 + d) : k0_off6 i k T = ![k.val / 8 * 8, d / 128 * 128] := by
  have hk : k.val < 32 := lt_t2 k
  have h2 : (k0_mult1 i T).toNat = d / 128 * 128 := by rw [mult1_eq i T d hd hT]; exact toNat_small _ (by omega)
  have h1 : (k0_mult2 k).toNat = k.val / 8 * 8 := by
    unfold k0_mult2
    dsimp only
    rw [iv_eq k.val hk]
    have h := floordiv_small k.val 8 (by omega) (by omega) (by omega)
    refine (congrArg (fun z => (Scalar.muli z 8#32).toNat) h).trans ?_
    show (BitVec.ofNat 32 (k.val / 8) * BitVec.ofNat 32 8).toNat = _
    rw [← BitVec.ofNat_mul]; exact toNat_small _ (by omega)
  show ![(k0_mult2 k).toNat, (k0_mult1 i T).toNat] = _
  rw [h1, h2]

/-- A token of the block passes the check. -/
theorem chk3_of (i : grid0.Coords) (k : Fin k0_t2_loop.trips) (w T P : BitVec 32) (d : ℕ) (hd : d < 8192)
    (hT : T.toNat = (i 0).val * 8192 + d) : k0_chk3 i k w T P := by
  have hk : k.val < 32 := lt_t2 k
  refine ⟨fun _ => ?_, fun _ => ?_⟩
  · rw [mult1_eq i T d hd hT, toNat_small _ (by omega)]; exact ⟨_, Nat.mul_comm _ _⟩
  · rw [off6_eq i k T d hd hT]
    intro a; fin_cases a
    · show k.val / 8 * 8 + 8 ≤ 32; omega
    · show d / 128 * 128 + 128 ≤ 8192; omega

/-- The token is penalised unless it repeats the one before it in its row. -/
theorem cond2_iff (p : ℕ) (hp : p < 200) (T P : BitVec 32) :
    k0_cond2 (BitVec.ofNat 32 p) T P = 1#1 ↔ ¬ (0 < p ∧ T = P) := by
  unfold k0_cond2
  dsimp only
  rw [show (0#32 : BitVec 32) = BitVec.ofNat 32 0 from rfl, sgt_small p 0 (by omega) (by omega)]
  have e : Scalar.cmpi .eq T P = BitVec.ofBool (decide (T = P)) := WordCmp.cmpi_eq_eq T P
  rw [e]
  by_cases h1 : 0 < p <;> by_cases h2 : T = P <;> simp only [h1, h2, if_true, if_false, decide_true, decide_false, BitVec.ofBool] <;> decide

/-- The first point is recognised by the kernel, -/
theorem cond1_iff (i : grid0.Coords) : k0_cond1 i = 1#1 ↔ (i 0).val = 0 := by
  have h : ∀ n : Fin 123, (Scalar.cmpi .ne (Scalar.extui (Scalar.cmpi .eq (BitVec.ofNat 32 n.val) 0#32) : BitVec 32) 0#32 = 1#1) ↔ n.val = 0 := by
    decide
  exact h (i 0)

/-- and the last. -/
theorem cond3_iff (i : grid0.Coords) : k0_cond3 i = 1#1 ↔ (i 0).val = 122 := by
  have h : ∀ n : Fin 123, (Scalar.cmpi .ne (Scalar.extui (Scalar.cmpi .eq (BitVec.ofNat 32 n.val) 122#32) : BitVec 32) 0#32 = 1#1) ↔ n.val = 122 := by
    decide
  exact h (i 0)

/-- The loop's test at pointer `p` reading word `X`: the pointer is inside the row and the word below the block's end. -/
theorem test_iff (b p : ℕ) (hb : b < 123) (hp : p ≤ 200) (X : BitVec 32) (hX : X.toNat < 1000000) :
    Scalar.andi (Scalar.cmpi .slt (BitVec.ofNat 32 p) 200#32)
      (Scalar.cmpi .slt X (Scalar.addi (Scalar.muli (BitVec.ofNat 32 b) 8192#32) 8192#32)) = 1#1
      ↔ p < 200 ∧ X.toNat < b * 8192 + 8192 := by
  have h1 := slt_small p 200 (by omega) (by omega)
  have e : Scalar.addi (Scalar.muli (BitVec.ofNat 32 b) 8192#32) 8192#32 = BitVec.ofNat 32 (b * 8192 + 8192) := by
    rw [base_eq]; show BitVec.ofNat 32 (b * 8192) + BitVec.ofNat 32 8192 = _; rw [← BitVec.ofNat_add]
  have h2 := slt_small X.toNat (b * 8192 + 8192) (by omega) (by omega)
  rw [BitVec.ofNat_toNat, BitVec.setWidth_eq] at h2
  rw [e, h2, show (200#32 : BitVec 32) = BitVec.ofNat 32 200 from rfl, h1]
  by_cases c1 : p < 200 <;> by_cases c2 : X.toNat < b * 8192 + 8192 <;> simp only [c1, c2, if_true, if_false] <;> decide

/-- The lane of the tile the token is at, as the kernel computes it of the token's column `x`. -/
def lane (x : BitVec 32) : BitVec 32 :=
  let v216 : BitVec 32 := Scalar.select (Scalar.cmpi .eq 128#32 0#32) 1#32 128#32
  let v217 : BitVec 32 := Scalar.remsi x v216
  Scalar.select (Scalar.andi (Scalar.xori (Scalar.cmpi .slt v217 0#32) (Scalar.cmpi .slt v216 0#32)) (Scalar.cmpi .ne v217 0#32))
    (Scalar.addi v217 v216) v217

theorem lane_eq (d : ℕ) (hd : d < 8192) : lane (BitVec.ofNat 32 d) = BitVec.ofNat 32 (d % 128) :=
  mod_small d 128 (by omega) (by omega) (by omega)

/-- The sublane of the tile row `k` is at, as the kernel computes it. -/
def sublane (x : BitVec 32) : BitVec 32 :=
  let v245 : BitVec 32 := Scalar.select (Scalar.cmpi .eq 8#32 0#32) 1#32 8#32
  let v246 : BitVec 32 := Scalar.remsi x v245
  Scalar.select (Scalar.andi (Scalar.xori (Scalar.cmpi .slt v246 0#32) (Scalar.cmpi .slt v245 0#32)) (Scalar.cmpi .ne v246 0#32))
    (Scalar.addi v246 v245) v246

theorem sublane_eq (k : ℕ) (hk : k < 32) : sublane (BitVec.ofNat 32 k) = BitVec.ofNat 32 (k % 8) :=
  mod_small k 8 (by omega) (by omega) (by omega)

end Cert.Proof.KI
-- ==== Proof.KI.Tile.lean ====
/-
  One token's penalty: the 8 × 128 tile of the block the kernel loads, changes at one element and stores is the block with
  that one element penalised.
-/
module

public import proofs.«01_k».proof.Proof.KI.Offsets
public import Idealize.ShloMosaic.Lib.ValueIdx
public import Idealize.ShloMosaic.Lib.Tactic
public import Idealize.ShloMosaic.Lib.Pipeline.Value
public import Idealize.ShloMosaic.Lib.Pipeline.ValueKit.Geometry

@[expose] public section

noncomputable section

namespace Cert.Proof.KI

open Cert.KernelIdeal Cert.KernelIdeal.Gen
open Idealize.ShloMosaic Idealize.ShloMosaic.ValueIdx Cert.Proof.Words
open Idealize.ShloMosaic.TcCoe

variable {F : FTy → Type} [FloatOps F] [Named F]

/-- The penalised score: times 1.2 below zero, times the named reciprocal otherwise. -/
def pen (x : F .f32) : F .f32 :=
  Scalar.select (FloatOps.cmpf .olt x (Scalar.ofBits .f32 0x00000000#32)) (FloatOps.mulf x (Scalar.ofBits .f32 0x3F99999A#32))
    (FloatOps.mulf x (Named.named κ "pen_down" 0x3F555555#32))

/-- The tile the kernel stores back: the one loaded, penalised at the row's sublane and the given lane. -/
theorem pay5_apply (k : Fin k0_t2_loop.trips) (l : ℕ) (hl : l < 128) (v : Vec F S8x128 .f32) (j : S8x128.Idx) :
    k0_pay5 k (BitVec.ofNat 32 l) v j = if (j 0).val = k.val % 8 ∧ (j 1).val = l then pen (v j) else v j := by
  have hk := lt_t2 k
  have hs : sublane (Scf.iv 0#32 1#32 k.val) = BitVec.ofNat 32 (k.val % 8) := by rw [iv_eq k.val hk, sublane_eq k.val hk]
  have e : k0_pay5 k (BitVec.ofNat 32 l) v j
      = Scalar.select (IntOp.andi (IntOp.cmpi .eq (BitVec.ofNat 32 (j 1).val) (BitVec.ofNat 32 l))
          (IntOp.cmpi .eq (BitVec.ofNat 32 (j 0).val) (sublane (Scf.iv 0#32 1#32 k.val)))) (pen (v j)) (v j) := by
    unfold k0_pay5
    rw [shapeCast_self]
    show Scalar.select (IntOp.andi (IntOp.cmpi .eq (iota .tc S8x128 32 [1] iota_S8x128_d1_w32 j) (BitVec.ofNat 32 l))
      (IntOp.cmpi .eq (iota .tc S8x128 32 [0] iota_S8x128_d0_w32 j) (sublane (Scf.iv 0#32 1#32 k.val)))) (pen (v j)) (v j) = _
    rw [iota_single_apply, iota_single_apply]
  have h0 : (j 0).val < 8 := (j 0).isLt
  have h1 : (j 1).val < 128 := (j 1).isLt
  rw [e, hs, WordCmp.cmpi_eq_eq, WordCmp.cmpi_eq_eq, WordArith.andi_ofBool]
  have i1 : (BitVec.ofNat 32 (j 1).val = BitVec.ofNat 32 l) ↔ (j 1).val = l := by
    constructor
    · intro h; have := congrArg BitVec.toNat h; rw [toNat_small _ (by omega), toNat_small _ (by omega)] at this; exact this
    · intro h; rw [h]
  have i0 : (BitVec.ofNat 32 (j 0).val = BitVec.ofNat 32 (k.val % 8)) ↔ (j 0).val = k.val % 8 := by
    constructor
    · intro h; have := congrArg BitVec.toNat h; rw [toNat_small _ (by omega), toNat_small _ (by omega)] at this; exact this
    · intro h; rw [h]
  simp only [i1, i0]
  by_cases c0 : (j 0).val = k.val % 8 <;> by_cases c1 : (j 1).val = l <;> simp [c0, c1, Scalar.select]

/-- The tile of the block at row `k` and column `d`. -/
abbrev tile (k d : ℕ) (inb : ∀ a, (![k / 8 * 8, d / 128 * 128] : Fin 2 → ℕ) a + S8x128.size a ≤ S32x8192.size a) : Rect S32x8192 :=
  Rect.unit (s := S32x8192) ![k / 8 * 8, d / 128 * 128] S8x128.size inb

/-- Storing the penalised tile back over the block penalises the one element and leaves every other. -/
theorem tile_write (k : Fin k0_t2_loop.trips) (d : ℕ) (hd : d < 8192)
    (off : Fin 2 → ℕ) (hoff : off = ![k.val / 8 * 8, d / 128 * 128])
    (inb : ∀ a, off a + S8x128.size a ≤ S32x8192.size a) (f : S32x8192.Idx → Elt F .f32) :
    ((Memref.whole cc0_scratch0 : Memref sig .tc .vmem S32x8192 .f32).access (Rect.unit (s := S32x8192) off S8x128.size inb)).write (Elt F) f
        (k0_pay5 k (BitVec.ofNat 32 (d % 128))
          ((Memref.whole cc0_scratch0 : Memref sig .tc .vmem S32x8192 .f32).view.readAt (Elt F) (Rect.unit (s := S32x8192) off S8x128.size inb).toLoadRect f))
        Finset.univ
      = fun j => if (j 0).val = k.val ∧ (j 1).val = d then pen (f j) else f j := by
  subst hoff
  have hk := lt_t2 k
  funext j
  by_cases hj : j ∈ (Rect.unit (s := S32x8192) ![k.val / 8 * 8, d / 128 * 128] S8x128.size inb).set
  · rw [← Rect.map_emb_univ] at hj
    obtain ⟨x, -, rfl⟩ := Finset.mem_map.mp hj
    have e0 : (((Rect.unit (s := S32x8192) ![k.val / 8 * 8, d / 128 * 128] S8x128.size inb).emb x 0 : Fin _) : ℕ) = k.val / 8 * 8 + (x 0).val :=
      ValueKit.rect_emb_unit_val _ _ inb x 0
    have e1 : (((Rect.unit (s := S32x8192) ![k.val / 8 * 8, d / 128 * 128] S8x128.size inb).emb x 1 : Fin _) : ℕ) = d / 128 * 128 + (x 1).val :=
      ValueKit.rect_emb_unit_val _ _ inb x 1
    have h0 : (x 0).val < 8 := (x 0).isLt
    have h1 : (x 1).val < 128 := (x 1).isLt
    refine (View.write_emb_of_mem (v := (Memref.whole cc0_scratch0 : Memref sig .tc .vmem S32x8192 .f32).access (Rect.unit (s := S32x8192) ![k.val / 8 * 8, d / 128 * 128] S8x128.size inb))
      (Val := Elt F) f _ (Finset.mem_univ x)).trans ?_
    refine (pay5_apply k (d % 128) (by omega) _ x).trans ?_
    have hv : (Memref.whole cc0_scratch0 : Memref sig .tc .vmem S32x8192 .f32).view.readAt (Elt F) (Rect.unit (s := S32x8192) ![k.val / 8 * 8, d / 128 * 128] S8x128.size inb).toLoadRect f x
        = f ((Rect.unit (s := S32x8192) ![k.val / 8 * 8, d / 128 * 128] S8x128.size inb).emb x) := rfl
    rw [hv]
    have hc : ((x 0).val = k.val % 8 ∧ (x 1).val = d % 128) ↔ (k.val / 8 * 8 + (x 0).val = k.val ∧ d / 128 * 128 + (x 1).val = d) := by
      omega
    simp only [hc, e0, e1]
  · refine (View.write_of_not_mem (v := (Memref.whole cc0_scratch0 : Memref sig .tc .vmem S32x8192 .f32).access (Rect.unit (s := S32x8192) ![k.val / 8 * 8, d / 128 * 128] S8x128.size inb))
      (Val := Elt F) f _ Finset.univ ?_).trans ?_
    · rw [View.setOn_univ]
      exact fun h => hj ((View.set_slice_whole cc0_scratch0 _) ▸ h)
    · rw [if_neg]
      rintro ⟨a, b⟩
      apply hj
      rw [Rect.mem_set_unit]
      intro ax
      fin_cases ax
      · show k.val / 8 * 8 ≤ (j 0).val ∧ (j 0).val < k.val / 8 * 8 + 8; omega
      · show d / 128 * 128 ≤ (j 1).val ∧ (j 1).val < d / 128 * 128 + 128; omega

end Cert.Proof.KI

end
-- ==== Proof.KI.While.lean ====
/-
  The kernel's while loop: one row's tokens of the current block, penalised one after the other. Held are the sorted ids
  and the block being penalised; the loop moves the row's pointer past the tokens of the block and leaves the row with
  every one of its tokens penalised exactly once.
-/
module

public import proofs.«01_k».proof.Proof.KI.Tile
public import Idealize.ShloMosaic.Lib.Pipeline.Sound
public import Idealize.ShloMosaic.Lib.Pipeline.Frame
public import Idealize.ShloMosaic.Lib.Tactic

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.nat

/-! ## The ids and the rows penalised -/

/-- The token ids: every one a column of the logits, every row in nondecreasing order. -/
structure Sorted (X : S32x200.Idx → BitVec 32) : Prop where
  lt : ∀ j, (X j).toNat < 1000000
  mono : ∀ (r : Fin 32) (p q : Fin 200), p ≤ q → (X (ix2 r p)).toNat ≤ (X (ix2 r q)).toNat

/-- Row `r`'s pointer `p` at block `b`: exactly the tokens before it lie in earlier blocks. -/
structure PtrOK (X : S32x200.Idx → BitVec 32) (b : ℕ) (r : Fin 32) (p : ℕ) : Prop where
  le : p ≤ 200
  lo : ∀ q : Fin 200, q.val < p → (X (ix2 r q)).toNat < b * 8192
  hi : ∀ q : Fin 200, p ≤ q.val → b * 8192 ≤ (X (ix2 r q)).toNat

/-- Inside the loop: the tokens before the pointer lie in the block or before, the others in the block or after. -/
structure PtrIn (X : S32x200.Idx → BitVec 32) (b : ℕ) (r : Fin 32) (p : ℕ) : Prop where
  le : p ≤ 200
  lo : ∀ q : Fin 200, q.val < p → (X (ix2 r q)).toNat < b * 8192 + 8192
  hi : ∀ q : Fin 200, p ≤ q.val → b * 8192 ≤ (X (ix2 r q)).toNat

/-- Element `j` of row `r` is one of the first `p` tokens of the row, at block `b`. -/
def Hit (X : S32x200.Idx → BitVec 32) (b : ℕ) (r : Fin 32) (p : ℕ) (j : S32x8192.Idx) : Prop :=
  (j 0).val = r.val ∧ ∃ q : Fin 200, q.val < p ∧ (X (ix2 r q)).toNat = b * 8192 + (j 1).val

open Classical in
/-- The block with the first `p` tokens of row `r` penalised. -/
def rowPen (X : S32x200.Idx → BitVec 32) (b : ℕ) (r : Fin 32) (p : ℕ) (f : S32x8192.Idx → Elt F .f32) : S32x8192.Idx → Elt F .f32 :=
  fun j => if Hit X b r p j then pen (f j) else f j

theorem rowPen_zero {X : S32x200.Idx → BitVec 32} {b : ℕ} {r : Fin 32} {p : ℕ} (h : PtrOK X b r p)
    (f : S32x8192.Idx → Elt F .f32) : rowPen X b r p f = f := by
  funext j
  unfold rowPen
  rw [if_neg]
  rintro ⟨-, q, hq, e⟩
  have := h.lo q hq
  omega

/-- A token that repeats the one before it changes nothing. -/
theorem rowPen_dup {X : S32x200.Idx → BitVec 32} {b : ℕ} {r : Fin 32} {p : ℕ} (hp : p < 200)
    (h0 : 0 < p) (he : X (ix2 r ⟨p, hp⟩) = X (ix2 r ⟨p - 1, by omega⟩)) (f : S32x8192.Idx → Elt F .f32) :
    rowPen X b r (p + 1) f = rowPen X b r p f := by
  have : ∀ j, Hit X b r (p + 1) j ↔ Hit X b r p j := by
    intro j
    constructor
    · rintro ⟨h, q, hq, e⟩
      by_cases hqp : q.val < p
      · exact ⟨h, q, hqp, e⟩
      · have : q = ⟨p, hp⟩ := Fin.ext (by show q.val = p; omega)
        subst this
        exact ⟨h, ⟨p - 1, by omega⟩, by show p - 1 < p; omega, by rw [← he]; exact e⟩
    · rintro ⟨h, q, hq, e⟩
      exact ⟨h, q, by omega, e⟩
  funext j
  classical exact if_congr (this j) rfl rfl

/-- A token that does not repeat the one before it is penalised for the first time. -/
theorem rowPen_new {X : S32x200.Idx → BitVec 32} (hX : Sorted X) {b : ℕ} {r : Fin 32} {p : ℕ} (hp : p < 200) (d : ℕ)
    (hd : (X (ix2 r ⟨p, hp⟩)).toNat = b * 8192 + d)
    (hn : ¬ (0 < p ∧ X (ix2 r ⟨p, hp⟩) = X (ix2 r ⟨p - 1, by omega⟩))) (f : S32x8192.Idx → Elt F .f32) :
    rowPen X b r (p + 1) f = fun j => if (j 0).val = r.val ∧ (j 1).val = d then pen (rowPen X b r p f j) else rowPen X b r p f j := by
  funext j
  by_cases hj : (j 0).val = r.val ∧ (j 1).val = d
  · have h1 : Hit X b r (p + 1) j := ⟨hj.1, ⟨p, hp⟩, Nat.lt_succ_self p, by rw [hd, hj.2]⟩
    have h2 : ¬ Hit X b r p j := by
      rintro ⟨-, q, hq, e⟩
      apply hn
      refine ⟨by omega, BitVec.eq_of_toNat_eq (Nat.le_antisymm ?_ ?_)⟩
      · rw [hd, ← hj.2, ← e]
        exact hX.mono r q ⟨p - 1, by omega⟩ (by show q.val ≤ p - 1; omega)
      · exact hX.mono r ⟨p - 1, by omega⟩ ⟨p, hp⟩ (by show p - 1 ≤ p; omega)
    rw [if_pos hj]
    unfold rowPen
    rw [if_pos h1, if_neg h2]
  · rw [if_neg hj]
    have : Hit X b r (p + 1) j ↔ Hit X b r p j := by
      constructor
      · rintro ⟨h, q, hq, e⟩
        by_cases hqp : q.val < p
        · exact ⟨h, q, hqp, e⟩
        · have : q = ⟨p, hp⟩ := Fin.ext (by show q.val = p; omega)
          subst this
          exact absurd ⟨h, by omega⟩ hj
      · rintro ⟨h, q, hq, e⟩
        exact ⟨h, q, by omega, e⟩
    classical exact if_congr this rfl rfl

/-- The loop's exit: the tokens from the pointer on lie in later blocks, so that the row is penalised whole. -/
theorem rowPen_exit {X : S32x200.Idx → BitVec 32} {b : ℕ} {r : Fin 32} {p : ℕ}
    (h : ∀ q : Fin 200, p ≤ q.val → b * 8192 + 8192 ≤ (X (ix2 r q)).toNat) (f : S32x8192.Idx → Elt F .f32) :
    rowPen X b r p f = rowPen X b r 200 f := by
  funext j
  have : Hit X b r 200 j ↔ Hit X b r p j := by
    constructor
    · rintro ⟨h0, q, hq, e⟩
      have h1 : (j 1).val < 8192 := (j 1).isLt
      refine ⟨h0, q, ?_, e⟩
      by_contra hqp
      have := h q (by omega)
      omega
    · rintro ⟨h0, q, hq, e⟩
      exact ⟨h0, q, q.isLt, e⟩
  classical exact if_congr this.symm rfl rfl

/-! ## The words the loop reads -/

/-- One word of the ids, at an offset inside them. -/
abbrev idRect (off : Fin 2 → ℕ) (inb : ∀ a, off a + S1x1.size a ≤ S32x200.size a) : Rect S32x200 :=
  Rect.unit (s := S32x200) off S1x1.size inb

/-- The word read at a row and a position is the ids' there. -/
theorem read_ids (X : S32x200.Idx → BitVec 32) (off : Fin 2 → ℕ) (inb : ∀ a, off a + S1x1.size a ≤ S32x200.size a) (r : Fin 32) (q : Fin 200)
    (h : off = ![r.val, q.val]) (x : S1x1.Idx) :
    ((Memref.whole cc0_stg0_0 : Memref sig .tc .smem S32x200 .i32).access (Rect.unit (s := S32x200) off S1x1.size inb)).read (Elt F) X x = X (ix2 r q) := by
  subst h
  show X _ = X _
  congr 1
  funext a
  have h0 : (x 0).val < 1 := (x 0).isLt
  have h1 : (x 1).val < 1 := (x 1).isLt
  fin_cases a
  · apply Fin.ext
    show r.val + 1 * (x 0).val = r.val
    omega
  · apply Fin.ext
    show q.val + 1 * (x 1).val = q.val
    omega

/-- A word of the ids read at the head of a program. -/
theorem wp_word {α : Type} (c : Dev nD) (X : Buf (Elt F) (((c : Dev nD) : Thread nD τ).loc cc0_stg0_0)) (Q : α → sProp 𝕄) (bd : Option ℕ) (E : Set ℕ) (off : Fin 2 → ℕ)
    (inb : ∀ a, off a + S1x1.size a ≤ S32x200.size a) (r : Fin 32) (q : Fin 200) (h : off = ![r.val, q.val])
    (hl : (Memref.whole cc0_stg0_0 : Memref sig .tc .smem S32x200 .i32).view.LoadsAt (idRect off inb).toLoadRect)
    (kk : (S1x1.Idx → BitVec 32) → Prog (TpuEff nD τ sig (Elt F) (Λ₀ F) .tc) α) :
    (((c : Thread nD τ).loc cc0_stg0_0) ↦{fullShare} X)
      ⊢ (iprop(((((c : Thread nD τ).loc cc0_stg0_0) ↦{fullShare} X) -∗ wp frame (wpE (defs₀ (F := F)) 𝒱₀ (c : Thread nD τ) bd) E
            (kk (fun _ => X (ix2 r q))) Q)
          -∗ wp frame (wpE (defs₀ (F := F)) 𝒱₀ (c : Thread nD τ) bd) E
              (.op (.load (Memref.whole cc0_stg0_0) (idRect off inb).toLoadRect hl) kk) Q) : sProp 𝕄) := by
  have e : ((Memref.whole cc0_stg0_0 : Memref sig .tc .smem S32x200 .i32).access (Rect.unit (s := S32x200) off S1x1.size inb)).read (Elt F) X
      = fun _ => X (ix2 r q) := funext fun x => read_ids X off inb r q h x
  rw [show kk (fun _ => X (ix2 r q)) = kk (((Memref.whole cc0_stg0_0 : Memref sig .tc .smem S32x200 .i32).access
    (Rect.unit (s := S32x200) off S1x1.size inb)).read (Elt F) X) from congrArg kk e.symm]
  exact wp_load_rect 𝒱₀ (c : Thread nD τ) bd E (m := Memref.whole cc0_stg0_0) (r := idRect off inb) (Finset.subset_univ _)

/-! ## The label's specification -/

section Label

variable (c : Dev nD) (i : grid0.Coords) (k : Fin k0_t2_loop.trips) (X : Buf (Elt F) (((c : Dev nD) : Thread nD τ).loc cc0_stg0_0))

/-- The row the loop is at. -/
abbrev row : Fin 32 := ⟨k.val, lt_t2 k⟩

/-- The ids' buffer and the block's. -/
def held (f : Buf (Elt F) (((c : Dev nD) : Thread nD τ).loc cc0_scratch0)) : sProp 𝕄 :=
  iprop((((c : Thread nD τ).loc cc0_stg0_0) ↦{fullShare} X) ∗ (((c : Thread nD τ).loc cc0_scratch0) ↦{fullShare} f))

/-- From the pointer `p`, with the tokens before it penalised, the loop returns the pointer of the next block, with the
    row penalised whole. -/
def spec (p : ℕ) (f : Buf (Elt F) (((c : Dev nD) : Thread nD τ).loc cc0_scratch0)) : sWPT 𝕄 (BitVec 32) := do
  sWPT.consume (held c X (rowPen X (i 0).val (row k) p f))
  let r ← sWPT.arbitrary
  sWPT.assume (∃ p', r = BitVec.ofNat 32 p' ∧ PtrOK X ((i 0).val + 1) (row k) p')
  sWPT.produce (held c X (rowPen X (i 0).val (row k) 200 f))
  pure r

theorem spec_apply (p : ℕ) (f : Buf (Elt F) (((c : Dev nD) : Thread nD τ).loc cc0_scratch0)) (K : BitVec 32 → sProp 𝕄) :
    spec c i k X p f K = iprop(held c X (rowPen X (i 0).val (row k) p f)
      ∗ ∀ r : BitVec 32, ⌜∃ p', r = BitVec.ofNat 32 p' ∧ PtrOK X ((i 0).val + 1) (row k) p'⌝
        -∗ (held c X (rowPen X (i 0).val (row k) 200 f) -∗ K r)) := rfl

theorem spec_le (hX : Sorted X) (E : Set ℕ) :
    ∀ n p, p + n = 200 → PtrIn X (i 0).val (row k) p → ∀ f K, spec (F := F) c i k X p f K
      ⊢ wp frame (wpE (defs₀ (F := F)) 𝒱₀ (c : Thread nD τ) (some n)) E
          (defs₀ (F := F) .tc 1 ⟨i, k, Memref.whole cc0_stg0_0, Memref.isWhole_whole _,
            Memref.whole cc0_scratch0, Memref.isWhole_whole _, BitVec.ofNat 32 p⟩) K := by
  intro n
  induction n with
  | zero =>
    intro p hpn hp f K
    obtain rfl : p = 200 := by omega
    rw [spec_apply]
    show _ ⊢ wp frame (wpE (defs₀ (F := F)) 𝒱₀ (c : Thread nD τ) (some 0)) E
      (cc0_while1 i k (Memref.whole cc0_stg0_0) (Memref.isWhole_whole _) (Memref.whole cc0_scratch0) (Memref.isWhole_whole _)
        (BitVec.ofNat 32 200)) K
    simp only [cc0_while1_eq_skeleton]; unfold cc0_while1_skel
    simp only [smemLoad, smemLoadElt, Prog.lift, Prog.bind_op, Prog.bind_ret, Prog.pure_eq_ret]
    unfold held
    iintro ⟨⟨Hx, Hs⟩, Hk⟩
    iapply (wp_assume 𝒱₀ (c : Thread nD τ) (some 0) E (chk1_of k 200 (by omega)))
    iapply (wp_word c X K (some 0) E (k0_off3 k (BitVec.ofNat 32 200)) (chk1_of k 200 (by omega)) (row k) ⟨199, by omega⟩ (off3_eq k 200 (by omega)) _ _) $$ Hx; iintro Hx
    rw [if_neg (fun h => absurd ((test_iff (i 0).val 200 (i 0).isLt (by omega) _ (hX.lt _)).1 h).1 (by omega))]
    rw [wp_ret]; imodintro
    iapply Hk
    · ipureintro
      exact ⟨200, rfl, by omega, fun q hq => by have := hp.lo q hq; omega, fun q hq => absurd q.isLt (by omega)⟩
    · isplitl [Hx]; · iexact Hx
      iexact Hs
  | succ n ih =>
    intro p hpn hp f K
    have hp' : p < 200 := by omega
    rw [spec_apply]
    show _ ⊢ wp frame (wpE (defs₀ (F := F)) 𝒱₀ (c : Thread nD τ) (some (n + 1))) E
      (cc0_while1 i k (Memref.whole cc0_stg0_0) (Memref.isWhole_whole _) (Memref.whole cc0_scratch0) (Memref.isWhole_whole _)
        (BitVec.ofNat 32 p)) K
    simp only [cc0_while1_eq_skeleton]; unfold cc0_while1_skel
    simp only [smemLoad, smemLoadElt, Prog.lift, Prog.bind_op, Prog.bind_ret, Prog.pure_eq_ret]
    unfold held
    iintro ⟨⟨Hx, Hs⟩, Hk⟩
    iapply (wp_assume 𝒱₀ (c : Thread nD τ) (some (n + 1)) E (chk1_of k p (by omega)))
    iapply (wp_word c X K (some (n + 1)) E (k0_off3 k (BitVec.ofNat 32 p)) (chk1_of k p (by omega)) (row k) ⟨p, hp'⟩ (by rw [off3_eq k p (by omega)]; simp only [Nat.min_eq_left (show p ≤ 199 by omega)]) _ _) $$ Hx; iintro Hx
    by_cases ht : (X (ix2 (row k) ⟨p, hp'⟩)).toNat < (i 0).val * 8192 + 8192
    · rw [if_pos ((test_iff (i 0).val p (i 0).isLt (by omega) _ (hX.lt _)).2 ⟨hp', ht⟩)]
      have hlo := hp.hi ⟨p, hp'⟩ (Nat.le_refl p)
      obtain ⟨d, hd⟩ : ∃ d, (X (ix2 (row k) ⟨p, hp'⟩)).toNat = (i 0).val * 8192 + d := ⟨_, (Nat.add_sub_cancel' hlo).symm⟩
      have hd8 : d < 8192 := by omega
      have hnext : PtrIn X (i 0).val (row k) (p + 1) := by
        refine ⟨by omega, fun q hq => ?_, fun q hq => hp.hi q (by omega)⟩
        by_cases hqp : q.val < p
        · exact hp.lo q hqp
        · have : q = ⟨p, hp'⟩ := Fin.ext (by show q.val = p; omega)
          rw [this]; exact ht
      iapply (wp_assume 𝒱₀ (c : Thread nD τ) (some (n + 1)) E (chk2_of k p hp'))
      iapply (wp_word c X K (some (n + 1)) E (k0_off4 k (BitVec.ofNat 32 p)) (chk2_of k p hp').1 (row k) ⟨p, hp'⟩ (off4_eq k p hp') _ _) $$ Hx; iintro Hx
      iapply (wp_word c X K (some (n + 1)) E (k0_off5 k (BitVec.ofNat 32 p)) (chk2_of k p hp').2 (row k) ⟨max p 1 - 1, by omega⟩ (off5_eq k p hp') _ _) $$ Hx; iintro Hx
      iapply (wp_assume 𝒱₀ (c : Thread nD τ) (some (n + 1)) E (chk3_of i k (BitVec.ofNat 32 p) (X (ix2 (row k) ⟨p, hp'⟩)) _ d hd8 hd))
      have hadd : Scalar.addi (BitVec.ofNat 32 p) 1#32 = BitVec.ofNat 32 (p + 1) := by
        show BitVec.ofNat 32 p + BitVec.ofNat 32 1 = _
        rw [← BitVec.ofNat_add]
      by_cases hc : 0 < p ∧ X (ix2 (row k) ⟨p, hp'⟩) = X (ix2 (row k) ⟨max p 1 - 1, by omega⟩)
      · rw [dif_neg (fun h => (cond2_iff p hp' _ _).1 h hc)]
        rw [hadd]
        simp only [Prog.lift, Prog.bind_op, Prog.bind_ret, Prog.pure_eq_ret]
        iapply (wp_call_spec 𝒱₀ (c : Thread nD τ) (some (n + 1)) E (spec c i k X (p + 1) f) n
          (fun u hu => by cases hu; exact Nat.lt_succ_self n) (ih (p + 1) (by omega) hnext f))
        rw [spec_apply]; unfold held
        have hpm : (⟨max p 1 - 1, by omega⟩ : Fin 200) = ⟨p - 1, by omega⟩ := Fin.ext (by show max p 1 - 1 = p - 1; omega)
        rw [rowPen_dup hp' hc.1 (hc.2.trans (congrArg (fun z => X (ix2 (row k) z)) hpm))]
        isplitl [Hx Hs]
        · isplitl [Hx]; · iexact Hx
          iexact Hs
        iintro %r %hr ⟨Hx, Hs⟩
        rw [wp_ret]; imodintro
        iapply Hk
        · ipureintro; exact hr
        · isplitl [Hx]; · iexact Hx
          iexact Hs
      · rw [dif_pos ((cond2_iff p hp' _ _).2 hc)]
        rw [hadd]
        simp only [k0_part5_eq_skeleton]; unfold k0_part5_skel
        simp only [Prog.lift, Prog.bind_op, Prog.bind_ret, Prog.pure_eq_ret]
        iapply (wp_load 𝒱₀ (c : Thread nD τ) (some (n + 1)) E (m := Memref.whole cc0_scratch0) (Finset.subset_univ _)) $$ Hs; iintro Hs
        iapply (wp_load 𝒱₀ (c : Thread nD τ) (some (n + 1)) E (m := Memref.whole cc0_scratch0) (Finset.subset_univ _)) $$ Hs; iintro Hs
        iapply (wp_store 𝒱₀ (c : Thread nD τ) (some (n + 1)) E (m := Memref.whole cc0_scratch0)
          (r := Rect.unit (s := S32x8192) (k0_off6 i k (X (ix2 (row k) ⟨p, hp'⟩))) S8x128.size
            ((chk3_of i k (BitVec.ofNat 32 p) (X (ix2 (row k) ⟨p, hp'⟩)) _ d hd8 hd).2 ((cond2_iff p hp' _ _).2 hc))) (Mk := Finset.univ) (Finset.subset_univ _)) $$ Hs; iintro Hs
        iapply (wp_call_spec 𝒱₀ (c : Thread nD τ) (some (n + 1)) E (spec c i k X (p + 1) f) n
          (fun u hu => by cases hu; exact Nat.lt_succ_self n) (ih (p + 1) (by omega) hnext f))
        rw [spec_apply]; unfold held
        isplitl [Hx Hs]
        · isplitl [Hx]; · iexact Hx
          rw [rowPen_new hX hp' d hd (by
            rintro ⟨a, b⟩
            have hpm : (⟨max p 1 - 1, by omega⟩ : Fin 200) = ⟨p - 1, by omega⟩ := Fin.ext (by show max p 1 - 1 = p - 1; omega)
            exact hc ⟨a, b.trans (congrArg (fun z => X (ix2 (row k) z)) hpm.symm)⟩)]
          have hl := lane_eq d hd8
          rw [← rel_eq i _ d hd] at hl
          unfold lane at hl
          rw [hl, tile_write k d hd8 _ (off6_eq i k _ d hd8 hd)]
          iexact Hs
        iintro %r %hr ⟨Hx, Hs⟩
        rw [wp_ret]; imodintro
        iapply Hk
        · ipureintro; exact hr
        · isplitl [Hx]; · iexact Hx
          iexact Hs
    · rw [if_neg (fun h => ht ((test_iff (i 0).val p (i 0).isLt (by omega) _ (hX.lt _)).1 h).2)]
      rw [wp_ret]; imodintro
      have hge : ∀ q : Fin 200, p ≤ q.val → (i 0).val * 8192 + 8192 ≤ (X (ix2 (row k) q)).toNat := by
        intro q hq
        have := hX.mono (row k) ⟨p, hp'⟩ q hq
        omega
      iapply Hk
      · ipureintro
        exact ⟨p, rfl, by omega, fun q hq => by have := hp.lo q hq; omega, fun q hq => by have := hge q hq; omega⟩
      · rw [← rowPen_exit hge]
        isplitl [Hx]; · iexact Hx
        iexact Hs

end Label

end Cert.Proof.KI

end
-- ==== Proof.KI.Rows.lean ====
/-
  The kernel's two counted loops: the first clears the pointers; the second goes through the rows of a block, each by the
  while loop, and leaves the block with every token of the ids penalised and every pointer at the next block.
-/
module

public import proofs.«01_k».proof.Proof.KI.While
public import proofs.«01_k».proof.Proof.Gen.KernelIdeal.Loops

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## One pointer read and written -/

theorem idx_word (k : ℕ) (hk : k < 32) : (Scalar.indexCast (BitVec.ofNat 32 k) : Index).toNat = k := by
  interval_cases k <;> decide

theorem off1_eq (k : Fin k0_t1_loop.trips) : k0_off1 k = ![k.val] := by
  unfold k0_off1
  dsimp only
  rw [iv_eq k.val (lt_t1 k), idx_word k.val (lt_t1 k)]

theorem off2_eq (k : Fin k0_t2_loop.trips) : k0_off2 k = ![k.val] := by
  unfold k0_off2
  dsimp only
  rw [iv_eq k.val (lt_t2 k), idx_word k.val (lt_t2 k)]

/-- One pointer, at an offset inside them. -/
abbrev ptrRect (off : Fin 1 → ℕ) (inb : ∀ a, off a + S1.size a ≤ S32.size a) : Rect S32 :=
  Rect.unit (s := S32) off S1.size inb

theorem ptr_emb (off : Fin 1 → ℕ) (inb : ∀ a, off a + S1.size a ≤ S32.size a) (r : Fin 32) (h : off = ![r.val]) (x : S1.Idx) :
    (ptrRect off inb).emb x = ix1 r := by
  subst h
  funext a
  have h0 : (x 0).val < 1 := (x 0).isLt
  fin_cases a
  apply Fin.ext
  show r.val + 1 * (x 0).val = r.val
  omega

theorem read_ptr (P : S32.Idx → BitVec 32) (off : Fin 1 → ℕ) (inb : ∀ a, off a + S1.size a ≤ S32.size a) (r : Fin 32)
    (h : off = ![r.val]) :
    ((Memref.whole cc0_scratch5 : Memref sig .tc .smem S32 .i32).access (ptrRect off inb)).read (Elt F) P = fun _ => P (ix1 r) := by
  funext x
  show P ((ptrRect off inb).emb x) = _
  rw [ptr_emb off inb r h x]

/-- The pointers with row `r`'s set to `w`. -/
def setPtr (P : S32.Idx → BitVec 32) (r : Fin 32) (w : BitVec 32) : S32.Idx → BitVec 32 :=
  fun j => if (j 0).val = r.val then w else P j

theorem setPtr_self (P : S32.Idx → BitVec 32) (r : Fin 32) (w : BitVec 32) : setPtr P r w (ix1 r) = w := if_pos rfl

theorem setPtr_ne (P : S32.Idx → BitVec 32) (r r' : Fin 32) (w : BitVec 32) (h : r' ≠ r) : setPtr P r w (ix1 r') = P (ix1 r') :=
  if_neg fun e => h (Fin.ext e)

theorem write_ptr (P : S32.Idx → BitVec 32) (off : Fin 1 → ℕ) (inb : ∀ a, off a + S1.size a ≤ S32.size a) (r : Fin 32)
    (h : off = ![r.val]) (w : BitVec 32) :
    ((Memref.whole cc0_scratch5 : Memref sig .tc .smem S32 .i32).access (ptrRect off inb)).write (Elt F) P (fun _ => w) Finset.univ
      = setPtr P r w := by
  funext (j : S32.Idx)
  by_cases hj : (j 0).val = r.val
  · have e : j = (ptrRect off inb).emb (ix1 (0 : Fin 1)) := by
      rw [ptr_emb off inb r h]; exact (eq_ix1 j).trans (congrArg ix1 (Fin.ext hj : j 0 = r))
    refine Eq.trans ?_ (if_pos hj).symm
    conv_lhs => rw [e]
    exact View.write_emb_of_mem (v := (Memref.whole cc0_scratch5 : Memref sig .tc .smem S32 .i32).access (ptrRect off inb)) (Val := Elt F) P _
      (Finset.mem_univ (ix1 (0 : Fin 1)))
  · refine Eq.trans ?_ (if_neg hj).symm
    refine View.write_of_not_mem (v := (Memref.whole cc0_scratch5 : Memref sig .tc .smem S32 .i32).access (ptrRect off inb)) (Val := Elt F) P _ Finset.univ ?_
    rw [View.setOn_univ]
    intro hm
    have hm' : j ∈ (ptrRect off inb).set := (View.set_slice_whole cc0_scratch5 (ptrRect off inb)) ▸ hm
    rw [← Rect.map_emb_univ] at hm'
    obtain ⟨x, -, rfl⟩ := Finset.mem_map.mp hm'
    exact hj (by rw [ptr_emb off inb r h x])

section Ops

/-- A pointer read at the head of a program. -/
theorem wp_ptr {α : Type} (c : Dev nD) (P : Buf (Elt F) (((c : Dev nD) : Thread nD τ).loc cc0_scratch5)) (Q : α → sProp 𝕄) (bd : Option ℕ) (E : Set ℕ)
    (off : Fin 1 → ℕ) (inb : ∀ a, off a + S1.size a ≤ S32.size a) (r : Fin 32) (h : off = ![r.val])
    (hl : (Memref.whole cc0_scratch5 : Memref sig .tc .smem S32 .i32).view.LoadsAt (ptrRect off inb).toLoadRect)
    (kk : (S1.Idx → BitVec 32) → Prog (TpuEff nD τ sig (Elt F) (Λ₀ F) .tc) α) :
    (((c : Thread nD τ).loc cc0_scratch5) ↦{fullShare} P)
      ⊢ (iprop(((((c : Thread nD τ).loc cc0_scratch5) ↦{fullShare} P) -∗ wp frame (wpE (defs₀ (F := F)) 𝒱₀ (c : Thread nD τ) bd) E
            (kk (fun _ => P (ix1 r))) Q)
          -∗ wp frame (wpE (defs₀ (F := F)) 𝒱₀ (c : Thread nD τ) bd) E
              (.op (.load (Memref.whole cc0_scratch5) (ptrRect off inb).toLoadRect hl) kk) Q) : sProp 𝕄) := by
  rw [show kk (fun _ => P (ix1 r)) = kk (((Memref.whole cc0_scratch5 : Memref sig .tc .smem S32 .i32).access (ptrRect off inb)).read (Elt F) P)
    from congrArg kk (read_ptr P off inb r h).symm]
  exact wp_load_rect 𝒱₀ (c : Thread nD τ) bd E (m := Memref.whole cc0_scratch5) (r := ptrRect off inb) (Finset.subset_univ _)

/-- A pointer written at the head of a program. -/
theorem wp_ptr_store {α : Type} (c : Dev nD) (P : Buf (Elt F) (((c : Dev nD) : Thread nD τ).loc cc0_scratch5)) (Q : α → sProp 𝕄) (bd : Option ℕ) (E : Set ℕ)
    (off : Fin 1 → ℕ) (inb : ∀ a, off a + S1.size a ≤ S32.size a) (r : Fin 32) (h : off = ![r.val])
    (w : BitVec 32) {hx} {hm}
    (kk : PUnit → Prog (TpuEff nD τ sig (Elt F) (Λ₀ F) .tc) α) :
    (((c : Thread nD τ).loc cc0_scratch5) ↦{fullShare} P)
      ⊢ (iprop(((((c : Thread nD τ).loc cc0_scratch5) ↦{fullShare} setPtr P r w) -∗
            wp frame (wpE (defs₀ (F := F)) 𝒱₀ (c : Thread nD τ) bd) E (kk ⟨⟩) Q)
          -∗ wp frame (wpE (defs₀ (F := F)) 𝒱₀ (c : Thread nD τ) bd) E
              (.op (.store (Memref.whole cc0_scratch5) (ptrRect off inb) (fun _ => w) Finset.univ hx hm) kk) Q) : sProp 𝕄) := by
  rw [← write_ptr (F := F) P off inb r h w]
  exact wp_store 𝒱₀ (c : Thread nD τ) bd E (m := Memref.whole cc0_scratch5) (r := ptrRect off inb) (Mk := Finset.univ) (Finset.subset_univ _)

end Ops

/-! ## The two loops -/

/-- Every row's pointer, the rows before `n` already at the next block. -/
def PtrRows (X : S32x200.Idx → BitVec 32) (b n : ℕ) (P : S32.Idx → BitVec 32) : Prop :=
  ∀ r : Fin 32, ∃ p, P (ix1 r) = BitVec.ofNat 32 p ∧ PtrOK X (if r.val < n then b + 1 else b) r p

/-- The element is one of its row's tokens, at block `b`. -/
def IsTok (X : S32x200.Idx → BitVec 32) (b : ℕ) (j : S32x8192.Idx) : Prop :=
  ∃ q : Fin 200, (X (ix2 (j 0) q)).toNat = b * 8192 + (j 1).val

open Classical in
/-- The block with the first `n` rows' tokens penalised. -/
def rowsPen (X : S32x200.Idx → BitVec 32) (b n : ℕ) (f : S32x8192.Idx → Elt F .f32) : S32x8192.Idx → Elt F .f32 :=
  fun j => if (j 0).val < n ∧ IsTok X b j then pen (f j) else f j

theorem rowsPen_zero (X : S32x200.Idx → BitVec 32) (b : ℕ) (f : S32x8192.Idx → Elt F .f32) : rowsPen X b 0 f = f := by
  funext j
  exact if_neg (fun h => absurd h.1 (Nat.not_lt_zero _))

theorem rowsPen_succ (X : S32x200.Idx → BitVec 32) (b : ℕ) (r : Fin 32) (f : S32x8192.Idx → Elt F .f32) :
    rowsPen X b (r.val + 1) f = rowPen X b r 200 (rowsPen X b r.val f) := by
  classical
  funext j
  by_cases h0 : (j 0).val = r.val
  · have hr : j 0 = r := Fin.ext h0
    have e : Hit X b r 200 j ↔ IsTok X b j := by
      constructor
      · rintro ⟨_, q, _, e⟩; exact ⟨q, by rw [hr]; exact e⟩
      · rintro ⟨q, e⟩; rw [hr] at e; exact ⟨h0, q, q.isLt, e⟩
    have hn : ¬ ((j 0).val < r.val ∧ IsTok X b j) := fun h => by
      have h1 := h.1
      omega
    have e1 : rowsPen X b r.val f j = f j := if_neg hn
    have e2 : rowPen X b r 200 (rowsPen X b r.val f) j = if Hit X b r 200 j then pen (rowsPen X b r.val f j) else rowsPen X b r.val f j := rfl
    rw [e2, e1]
    have hlt : (j 0).val < r.val + 1 := by omega
    have e3 : ((j 0).val < r.val + 1 ∧ IsTok X b j) ↔ Hit X b r 200 j := ⟨fun h => e.2 h.2, fun h => ⟨hlt, e.1 h⟩⟩
    exact if_congr e3 rfl rfl
  · have e2 : rowPen X b r 200 (rowsPen X b r.val f) j = rowsPen X b r.val f j := if_neg fun h => h0 h.1
    rw [e2]
    have e4 : ((j 0).val < r.val + 1) ↔ ((j 0).val < r.val) := by omega
    exact if_congr (and_congr_left' e4) rfl rfl

theorem rowPen_start {X : S32x200.Idx → BitVec 32} {b : ℕ} {r : Fin 32} {p : ℕ} (h : PtrOK X b r p) : PtrIn X b r p :=
  ⟨h.le, fun q hq => Nat.lt_add_right _ (h.lo q hq), h.hi⟩

section Loops

variable (c : Dev nD) (bd : Option ℕ) (E : Set ℕ) (i : grid0.Coords)
  (arg2 : Memref sig .tc .vmem S32x8192 .f32) (harg2 : arg2.IsWhole) (arg3 : Memref sig .tc .vmem S32x8 .f32) (harg3 : arg3.IsWhole)
  (arg4 : Memref sig .tc .vmem S32x8 .i32) (harg4 : arg4.IsWhole) (arg6 : Memref sig .tc .vmem S32x128 .f32) (harg6 : arg6.IsWhole)
  (arg7 : Memref sig .tc .vmem S32x128 .f32) (harg7 : arg7.IsWhole) (arg8 : Memref sig .tc .vmem S32x128 .f32) (harg8 : arg8.IsWhole)
  (arg9 : Memref sig .tc .vmem S32x128 .i32) (harg9 : arg9.IsWhole)

/-- Before trip `n` of the first loop: the first `n` pointers cleared. -/
def inv1 (n : ℕ) : sProp 𝕄 :=
  iprop(∃ P : Buf (Elt F) (((c : Dev nD) : Thread nD τ).loc cc0_scratch5), ⌜∀ r : Fin 32, r.val < n → P (ix1 r) = 0#32⌝
    ∗ (((c : Thread nD τ).loc cc0_scratch5) ↦{fullShare} P))

theorem step1 (h1 : k0_cond1 i = 1#1) (k : Fin k0_t1_loop.trips) (u : Unit) :
    (inv1 (F := F) c k.val) ⊢ wp frame (wpE (defs₀ (F := F)) 𝒱₀ (c : Thread nD τ) bd) E
      (k0_t1_body i (Memref.whole cc0_stg0_0) (Memref.isWhole_whole _) arg2 harg2 arg3 harg3 arg4 harg4 (Memref.whole cc0_scratch0) (Memref.isWhole_whole _)
        arg6 harg6 arg7 harg7 arg8 harg8 arg9 harg9 (Memref.whole cc0_scratch5) (Memref.isWhole_whole _) h1 k u) (fun _ => inv1 c (k.val + 1)) := by
  unfold k0_t1_body
  simp only [smemLoad, smemLoadElt, Prog.lift, Prog.bind_op, Prog.bind_ret, Prog.pure_eq_ret]
  unfold inv1
  iintro ⟨%P, %hP, H⟩
  iapply (wp_ptr c P (fun _ => inv1 c (k.val + 1)) bd E (k0_off1 k) (k0_off1_inb i k h1) ⟨k.val, lt_t1 k⟩ (off1_eq k) _ _) $$ H; iintro H
  iapply (wp_ptr_store c P (fun _ => inv1 c (k.val + 1)) bd E (k0_off1 k) (k0_off1_inb i k h1) ⟨k.val, lt_t1 k⟩ (off1_eq k) 0#32 _) $$ H; iintro H
  rw [wp_ret]; imodintro
  unfold inv1
  iexists _
  isplitr
  swap
  · iexact H
  · ipureintro
    intro r hr
    by_cases hrk : r = ⟨k.val, lt_t1 k⟩
    · rw [hrk]; exact setPtr_self _ _ _
    · refine (setPtr_ne _ _ _ _ hrk).trans (hP r ?_)
      have : r.val ≠ k.val := fun e => hrk (Fin.ext e)
      omega

variable (X : Buf (Elt F) (((c : Dev nD) : Thread nD τ).loc cc0_stg0_0)) (f : Buf (Elt F) (((c : Dev nD) : Thread nD τ).loc cc0_scratch0))

/-- Before trip `n` of the second loop: the first `n` rows done. -/
def inv2 (n : ℕ) : sProp 𝕄 :=
  iprop(∃ P : Buf (Elt F) (((c : Dev nD) : Thread nD τ).loc cc0_scratch5), ⌜PtrRows X (i 0).val n P⌝
    ∗ held c X (rowsPen X (i 0).val n f) ∗ (((c : Thread nD τ).loc cc0_scratch5) ↦{fullShare} P))

theorem step2 (hX : Sorted X) (k : Fin k0_t2_loop.trips) (u : Unit) :
    (inv2 (F := F) c i X f k.val) ⊢ wp frame (wpE (defs₀ (F := F)) 𝒱₀ (c : Thread nD τ) none) E
      (k0_t2_body i (Memref.whole cc0_stg0_0) (Memref.isWhole_whole _) arg2 harg2 arg3 harg3 arg4 harg4 (Memref.whole cc0_scratch0) (Memref.isWhole_whole _)
        arg6 harg6 arg7 harg7 arg8 harg8 arg9 harg9 (Memref.whole cc0_scratch5) (Memref.isWhole_whole _) k u) (fun _ => inv2 c i X f (k.val + 1)) := by
  unfold k0_t2_body
  simp only [smemLoad, smemLoadElt, Prog.lift, Prog.bind_op, Prog.bind_ret, Prog.pure_eq_ret]
  unfold inv2
  iintro ⟨%P, %hP, Hh, H⟩
  iapply (wp_ptr c P (fun _ => inv2 c i X f (k.val + 1)) none E (k0_off2 k) (k0_off2_inb k) (row k) (off2_eq k) _ _) $$ H; iintro H
  obtain ⟨p, hp, hok⟩ := hP (row k)
  rw [if_neg (Nat.lt_irrefl k.val)] at hok
  rw [hp]
  iapply (wp_call_spec 𝒱₀ (c : Thread nD τ) none E (spec c i k X p (rowsPen X (i 0).val k.val f)) (200 - p)
    (fun u hu => nomatch hu) (spec_le c i k X hX E (200 - p) p (Nat.add_sub_cancel' hok.le) (rowPen_start hok) _))
  rw [spec_apply, rowPen_zero hok]
  isplitl [Hh]; · iexact Hh
  iintro %w %hw Hh
  iapply (wp_ptr c P (fun _ => inv2 c i X f (k.val + 1)) none E (k0_off2 k) (k0_off2_inb k) (row k) (off2_eq k) _ _) $$ H; iintro H
  iapply (wp_ptr_store c P (fun _ => inv2 c i X f (k.val + 1)) none E (k0_off2 k) (k0_off2_inb k) (row k) (off2_eq k) w _) $$ H; iintro H
  rw [wp_ret]; imodintro
  rw [← rowsPen_succ X (i 0).val (row k) f]
  unfold inv2
  iexists _
  isplitr
  swap
  · isplitl [Hh]; · iexact Hh
    iexact H
  · ipureintro
    intro r
    by_cases hrk : r = row k
    · obtain ⟨p', e, hok'⟩ := hw
      refine ⟨p', ?_, ?_⟩
      · rw [hrk]; exact (setPtr_self _ _ _).trans e
      · subst hrk
        rw [if_pos (Nat.lt_succ_self k.val)]; exact hok'
    · obtain ⟨p', e, hok'⟩ := hP r
      refine ⟨p', ?_, ?_⟩
      · exact (setPtr_ne _ _ _ _ hrk).trans e
      · have : r.val ≠ k.val := fun e => hrk (Fin.ext e)
        by_cases hlt : r.val < k.val
        · rw [if_pos hlt] at hok'; rw [if_pos (by omega)]; exact hok'
        · rw [if_neg hlt] at hok'; rw [if_neg (by omega)]; exact hok'

end Loops

end Cert.Proof.KI

end
-- ==== Proof.KI.Part1.lean ====
/-
  The first part of a grid point: at the first point the running state and the pointers are initialised; then the block is
  copied, its tokens are penalised, and the block and the running maximum and sum are read.
-/
module

public import proofs.«01_k».proof.Proof.KI.Rows

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The running state -/

variable (F) in
/-- What the kernel carries from block to block: the maximum, the sum, the five best values and their columns. -/
structure St where
  m : S32x128.Idx → Elt F .f32
  s : S32x128.Idx → Elt F .f32
  tv : S32x128.Idx → Elt F .f32
  ti : S32x128.Idx → Elt F .i32

/-- The state that the first point sets. -/
abbrev initSt : St F := ⟨k0_pay6, k0_pay7, k0_pay8, k0_pay9⟩

/-- The state a point starts with: the initial one at the first point. -/
def startSt (i : grid0.Coords) (g : St F) : St F := if (i 0).val = 0 then initSt else g

/-- The first lane of a lane-broadcast array. -/
def head1 {α : Type} (f : S32x128.Idx → α) : S32x1.Idx → α := fun x => f (ix2 (x 0) (0 : Fin 128))

/-- The first five lanes. -/
def head5 {α : Type} (f : S32x128.Idx → α) : S32x5.Idx → α := fun x => f (ix2 (x 0) ((x 1).castLE (by decide)))

/-! ## Whole loads and stores -/

theorem whole2_idx {s : Shape} (off : Fin s.rank → ℕ) (h : off = fun _ => 0) (inb : ∀ a, off a + s.size a ≤ s.size a) (x : s.Idx) :
    (Rect.unit (s := s) off s.size inb).emb x = x := by
  funext a
  apply Fin.ext
  have e := ValueKit.rect_emb_unit_val off s.size inb x a
  rw [e, congrFun h a, Nat.zero_add]

theorem z2 : (![0, 0] : Fin 2 → ℕ) = fun _ => 0 := funext fun a => by fin_cases a <;> rfl

/-- The whole of a lane-broadcast array, as the kernel loads and stores it. -/
abbrev rAll : Rect S32x128 := Rect.unit (s := S32x128) ![0, 0] S32x128.size inb_S32x128_S32x128_0_0

/-- The whole of a block. -/
abbrev rBlk : Rect S32x8192 := Rect.unit (s := S32x8192) ![0, 0] S32x8192.size inb_S32x8192_S32x8192_0_0

theorem read_block (v : Memref sig .tc .vmem S32x8192 .f32) (f : v.view.ty.Contents (Elt F)) :
    v.view.readAt (Elt F) (Rect.unit (s := S32x8192) ![0, 0] S32x8192.size inb_S32x8192_S32x8192_0_0).toLoadRect f = v.view.read (Elt F) f := by
  funext x
  exact congrArg (v.view.read (Elt F) f) (whole2_idx (s := S32x8192) ![0, 0] z2 inb_S32x8192_S32x8192_0_0 x)

theorem emb_head1 (x : S32x1.Idx) : (Rect.unit (s := S32x128) ![0, 0] S32x1.size inb_S32x128_S32x1_0_0).emb x = ix2 (x 0) (0 : Fin 128) := by
  funext a
  apply Fin.ext
  have e := ValueKit.rect_emb_unit_val (s := S32x128) ![0, 0] S32x1.size inb_S32x128_S32x1_0_0 x a
  rw [e]
  fin_cases a
  · exact Nat.zero_add _
  · have : (x 1).val < 1 := (x 1).isLt
    show 0 + (x 1).val = 0
    omega

theorem emb_head5 (x : S32x5.Idx) :
    (Rect.unit (s := S32x128) ![0, 0] S32x5.size inb_S32x128_S32x5_0_0).emb x = ix2 (x 0) ((x 1).castLE (by decide) : Fin 128) := by
  funext a
  apply Fin.ext
  have e := ValueKit.rect_emb_unit_val (s := S32x128) ![0, 0] S32x5.size inb_S32x128_S32x5_0_0 x a
  rw [e]
  fin_cases a
  · exact Nat.zero_add _
  · exact Nat.zero_add _

/-- The scratch block read whole. -/
theorem read_scratch (f : S32x8192.Idx → Elt F .f32) :
    (Memref.whole cc0_scratch0 : Memref sig .tc .vmem S32x8192 .f32).view.readAt (Elt F) rBlk.toLoadRect f = f :=
  read_block (Memref.whole cc0_scratch0) f

theorem read_m (f : S32x128.Idx → Elt F .f32) :
    (Memref.whole cc0_scratch1 : Memref sig .tc .vmem S32x128 .f32).view.readAt (Elt F)
      (Rect.unit (s := S32x128) ![0, 0] S32x1.size inb_S32x128_S32x1_0_0).toLoadRect f = head1 f :=
  funext fun x => congrArg f (emb_head1 x)

theorem read_s (f : S32x128.Idx → Elt F .f32) :
    (Memref.whole cc0_scratch2 : Memref sig .tc .vmem S32x128 .f32).view.readAt (Elt F)
      (Rect.unit (s := S32x128) ![0, 0] S32x1.size inb_S32x128_S32x1_0_0).toLoadRect f = head1 f :=
  funext fun x => congrArg f (emb_head1 x)

theorem read_tv (f : S32x128.Idx → Elt F .f32) :
    (Memref.whole cc0_scratch3 : Memref sig .tc .vmem S32x128 .f32).view.readAt (Elt F)
      (Rect.unit (s := S32x128) ![0, 0] S32x5.size inb_S32x128_S32x5_0_0).toLoadRect f = head5 f :=
  funext fun x => congrArg f (emb_head5 x)

theorem read_ti (f : S32x128.Idx → Elt F .i32) :
    (Memref.whole cc0_scratch4 : Memref sig .tc .vmem S32x128 .i32).view.readAt (Elt F)
      (Rect.unit (s := S32x128) ![0, 0] S32x5.size inb_S32x128_S32x5_0_0).toLoadRect f = head5 f :=
  funext fun x => congrArg f (emb_head5 x)

section Part

variable (c : Dev nD) (i : grid0.Coords) (X : Buf (Elt F) (((c : Dev nD) : Thread nD τ).loc cc0_stg0_0)) (g : St F)

/-- The state's buffers. -/
def stBufs (st : St F) : sProp 𝕄 :=
  iprop((((c : Thread nD τ).loc cc0_scratch1) ↦{fullShare} (st.m : Buf (Elt F) (((c : Dev nD) : Thread nD τ).loc cc0_scratch1)))
    ∗ (((c : Thread nD τ).loc cc0_scratch2) ↦{fullShare} (st.s : Buf (Elt F) (((c : Dev nD) : Thread nD τ).loc cc0_scratch2)))
    ∗ (((c : Thread nD τ).loc cc0_scratch3) ↦{fullShare} (st.tv : Buf (Elt F) (((c : Dev nD) : Thread nD τ).loc cc0_scratch3)))
    ∗ (((c : Thread nD τ).loc cc0_scratch4) ↦{fullShare} (st.ti : Buf (Elt F) (((c : Dev nD) : Thread nD τ).loc cc0_scratch4))))

/-- What the part returns, on the penalised block `y` and the state it starts with. -/
def ret1 (y : S32x8192.Idx → Elt F .f32) (st : St F) :
    Σ' (arg0 : BitVec 32) (v12 : IVec S32x8192 32) (v17 : Vec F S32x8192 .f32) (v21 : FVec F S32x1 .f32) (v31 : FVec F S32x1 .f32), FVec F S32x128 .f32 :=
  ⟨BitVec.ofNat 32 (i 0).val, k0_pay11 i, k0_pay12 i y, k0_pay13 i y (head1 st.m), k0_pay14 i y (head1 st.m) (head1 st.s), k0_pay15 i y (head1 st.m)⟩

theorem part1_wp (hX : Sorted X) (arg2 : Memref sig .tc .vmem S32x8192 .f32) (harg2 : arg2.IsWhole)
    (f2 : Buf (Elt F) (arg2.view.loc (c : Thread nD τ))) (x0 : Buf (Elt F) (((c : Dev nD) : Thread nD τ).loc cc0_scratch0))
    (P : Buf (Elt F) (((c : Dev nD) : Thread nD τ).loc cc0_scratch5)) (hP : (i 0).val ≠ 0 → PtrRows X (i 0).val 0 P)
    (K : (Σ' (arg0 : BitVec 32) (v12 : IVec S32x8192 32) (v17 : Vec F S32x8192 .f32) (v21 : FVec F S32x1 .f32) (v31 : FVec F S32x1 .f32), FVec F S32x128 .f32) → sProp 𝕄) :
    iprop((((c : Thread nD τ).loc cc0_stg0_0) ↦{fullShare} X) ∗ (arg2.view.loc (c : Thread nD τ) ↦[arg2.view.set]{fullShare} f2)
        ∗ (((c : Thread nD τ).loc cc0_scratch0) ↦{fullShare} x0) ∗ stBufs c g ∗ (((c : Thread nD τ).loc cc0_scratch5) ↦{fullShare} P)
        ∗ (∀ P' : Buf (Elt F) (((c : Dev nD) : Thread nD τ).loc cc0_scratch5), ⌜PtrRows X ((i 0).val + 1) 0 P'⌝ -∗
            ((((c : Thread nD τ).loc cc0_stg0_0) ↦{fullShare} X) ∗ (arg2.view.loc (c : Thread nD τ) ↦[arg2.view.set]{fullShare} f2)
              ∗ (∃ x1 : Buf (Elt F) (((c : Dev nD) : Thread nD τ).loc cc0_scratch0), ((c : Thread nD τ).loc cc0_scratch0) ↦{fullShare} x1)
              ∗ stBufs c (startSt i g) ∗ (((c : Thread nD τ).loc cc0_scratch5) ↦{fullShare} P'))
            -∗ K (ret1 i (rowsPen X (i 0).val 32 (arg2.view.read (Elt F) f2)) (startSt i g))))
      ⊢ wp frame (wpE (defs₀ (F := F)) 𝒱₀ (c : Thread nD τ) none) Set.univ (k0_part1 i (Memref.whole cc0_stg0_0) (Memref.isWhole_whole _) arg2 harg2
         (Memref.whole cc0_stg2_0) (Memref.isWhole_whole _) (Memref.whole cc0_stg3_0) (Memref.isWhole_whole _) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _)) K := by
  simp only [k0_part1_eq_skeleton]; unfold k0_part1_skel stBufs
  iintro ⟨Hx, H2, Hs, ⟨Hm, Hl, Htv, Hti⟩, Hp, Hk⟩
  by_cases h1 : k0_cond1 i = 1#1
  on_goal 1 =>
    have h0 : (i 0).val = 0 := (cond1_iff i).1 h1
    have hst : startSt i g = initSt := if_pos h0
    simp only [h1, dif_pos]
    simp only [Prog.lift, Prog.bind_op, Prog.bind_ret, Prog.pure_eq_ret]
    iapply (wp_load 𝒱₀ (c : Thread nD τ) none Set.univ (m := Memref.whole cc0_scratch1) (Finset.subset_univ _)) $$ Hm; iintro Hm
    iapply (wp_store 𝒱₀ (c : Thread nD τ) none Set.univ (m := Memref.whole cc0_scratch1) (r := rAll) (Mk := Finset.univ) (Finset.subset_univ _)) $$ Hm; iintro Hm
    rw [show ((Memref.whole cc0_scratch1).access rAll).write (Elt F) _ _ Finset.univ = _ from Memref.write_access_unit_zero_univ (Elt F) cc0_scratch1 z2 _ _ _]
    iapply (wp_load 𝒱₀ (c : Thread nD τ) none Set.univ (m := Memref.whole cc0_scratch2) (Finset.subset_univ _)) $$ Hl; iintro Hl
    iapply (wp_store 𝒱₀ (c : Thread nD τ) none Set.univ (m := Memref.whole cc0_scratch2) (r := rAll) (Mk := Finset.univ) (Finset.subset_univ _)) $$ Hl; iintro Hl
    rw [show ((Memref.whole cc0_scratch2).access rAll).write (Elt F) _ _ Finset.univ = _ from Memref.write_access_unit_zero_univ (Elt F) cc0_scratch2 z2 _ _ _]
    iapply (wp_load 𝒱₀ (c : Thread nD τ) none Set.univ (m := Memref.whole cc0_scratch3) (Finset.subset_univ _)) $$ Htv; iintro Htv
    iapply (wp_store 𝒱₀ (c : Thread nD τ) none Set.univ (m := Memref.whole cc0_scratch3) (r := rAll) (Mk := Finset.univ) (Finset.subset_univ _)) $$ Htv; iintro Htv
    rw [show ((Memref.whole cc0_scratch3).access rAll).write (Elt F) _ _ Finset.univ = _ from Memref.write_access_unit_zero_univ (Elt F) cc0_scratch3 z2 _ _ _]
    iapply (wp_load 𝒱₀ (c : Thread nD τ) none Set.univ (m := Memref.whole cc0_scratch4) (Finset.subset_univ _)) $$ Hti; iintro Hti
    iapply (wp_store 𝒱₀ (c : Thread nD τ) none Set.univ (m := Memref.whole cc0_scratch4) (r := rAll) (Mk := Finset.univ) (Finset.subset_univ _)) $$ Hti; iintro Hti
    rw [show ((Memref.whole cc0_scratch4).access rAll).write (Elt F) _ _ Finset.univ = _ from Memref.write_access_unit_zero_univ (Elt F) cc0_scratch4 z2 _ _ _]
    iapply (Scf.wp_for_bind _ _ Set.univ k0_t1_loop.lb k0_t1_loop.ub k0_t1_loop.st (k0_t1_ok i h1) ⟨⟩ _ (fun n _ => inv1 c n)
      (fun k u => step1 c none Set.univ i arg2 harg2 (Memref.whole cc0_stg2_0) (Memref.isWhole_whole _) (Memref.whole cc0_stg3_0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _) h1 k u)) $$ [Hp]
    · unfold inv1
      iexists P
      isplitr
      · ipureintro; exact fun r hr => absurd hr (Nat.not_lt_zero _)
      · iexact Hp
    iintro %u Hp
    unfold inv1
    icases Hp with ⟨%P1, %hz, Hp⟩
    have hP1 : PtrRows X (i 0).val 0 P1 := fun r => ⟨0, hz r (lt_of_lt_of_eq r.isLt trips_t1.symm), Nat.zero_le _,
      fun q hq => absurd hq (Nat.not_lt_zero _), fun q _ => by rw [if_neg (Nat.not_lt_zero _), h0, Nat.zero_mul]; exact Nat.zero_le _⟩
  on_goal 2 =>
    have h0 : ¬ (i 0).val = 0 := fun e => h1 ((cond1_iff i).2 e)
    have hst : startSt i g = g := if_neg h0
    simp only [dif_neg h1]
    simp only [Prog.lift, Prog.bind_op, Prog.bind_ret, Prog.pure_eq_ret]
    have hP1 := hP h0
  all_goals
    rw [hst]
    iapply (wp_load 𝒱₀ (c : Thread nD τ) none Set.univ (m := arg2) (View.setOn_subset_set _ _)) $$ H2; iintro H2
    rw [read_block arg2 f2]
    iapply (wp_load 𝒱₀ (c : Thread nD τ) none Set.univ (m := Memref.whole cc0_scratch0) (Finset.subset_univ _)) $$ Hs; iintro Hs
    iapply (wp_store 𝒱₀ (c : Thread nD τ) none Set.univ (m := Memref.whole cc0_scratch0) (r := rBlk) (Mk := Finset.univ) (Finset.subset_univ _)) $$ Hs; iintro Hs
    rw [show ((Memref.whole cc0_scratch0).access rBlk).write (Elt F) _ _ Finset.univ = _ from Memref.write_access_unit_zero_univ (Elt F) cc0_scratch0 z2 _ _ _]
    rw [show k0_pay10 (arg2.view.read (Elt F) f2) = arg2.view.read (Elt F) f2 from Idealize.ShloMosaic.shapeCast_self _ _]
    iapply (Scf.wp_for_bind _ _ Set.univ k0_t2_loop.lb k0_t2_loop.ub k0_t2_loop.st k0_t2_ok ⟨⟩ _ (fun n _ => inv2 c i X (arg2.view.read (Elt F) f2) n)
      (fun k u => step2 c Set.univ i arg2 harg2 (Memref.whole cc0_stg2_0) (Memref.isWhole_whole _) (Memref.whole cc0_stg3_0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _) X (arg2.view.read (Elt F) f2) hX k u)) $$ [Hp Hx Hs]
    · unfold inv2 held
      rw [rowsPen_zero]
      iexists _
      isplitr
      · ipureintro; exact hP1
      isplitl [Hx Hs]
      · isplitl [Hx]; · iexact Hx
        iexact Hs
      iexact Hp
    iintro %u2 Hp
    unfold inv2 held
    icases Hp with ⟨%P2, %hP2, ⟨Hx, Hs⟩, Hp⟩
    have hP3 : PtrRows X ((i 0).val + 1) 0 P2 := fun r => by
      obtain ⟨p, hp, hok⟩ := hP2 r
      rw [if_pos (lt_of_lt_of_eq r.isLt trips_t2.symm)] at hok
      exact ⟨p, hp, by rw [if_neg (Nat.not_lt_zero _)]; exact hok⟩
    iapply (wp_load 𝒱₀ (c : Thread nD τ) none Set.univ (m := Memref.whole cc0_scratch0) (Finset.subset_univ _)) $$ Hs; iintro Hs
    iapply (wp_load 𝒱₀ (c : Thread nD τ) none Set.univ (m := Memref.whole cc0_scratch1) (Finset.subset_univ _)) $$ Hm; iintro Hm
    iapply (wp_load 𝒱₀ (c : Thread nD τ) none Set.univ (m := Memref.whole cc0_scratch2) (Finset.subset_univ _)) $$ Hl; iintro Hl
    rw [wp_ret]; imodintro
    have ey := read_scratch (F := F) (rowsPen X (i 0).val 32 (arg2.view.read (Elt F) f2))
    have er : ∀ y v w, y = rowsPen X (i 0).val 32 (arg2.view.read (Elt F) f2) → v = head1 (startSt i g).m → w = head1 (startSt i g).s →
        (⟨BitVec.ofNat 32 (i 0).val, k0_pay11 i, k0_pay12 i y, k0_pay13 i y v, k0_pay14 i y v w, k0_pay15 i y v⟩ :
          Σ' (arg0 : BitVec 32) (v12 : IVec S32x8192 32) (v17 : Vec F S32x8192 .f32) (v21 : FVec F S32x1 .f32) (v31 : FVec F S32x1 .f32), FVec F S32x128 .f32)
          = ret1 i (rowsPen X (i 0).val 32 (arg2.view.read (Elt F) f2)) (startSt i g) := fun y v w ey ev ew => by subst ey ev ew; rfl
    rw [hst] at er
    rw [show Scf.trips k0_t2_loop.lb k0_t2_loop.ub k0_t2_loop.st = 32 from trips_t2]
    rw [er _ _ _ ey (read_m _) (read_s _)]
    iapply Hk
    · ipureintro; exact hP3
    isplitl [Hx]; · iexact Hx
    isplitl [H2]; · iexact H2
    isplitl [Hs]; · (iexists _; iexact Hs)
    isplitl [Hm Hl Htv Hti]
    · isplitl [Hm]; · iexact Hm
      isplitl [Hl]; · iexact Hl
      isplitl [Htv]; · iexact Htv
      iexact Hti
    iexact Hp

end Part

end Cert.Proof.KI
end
-- ==== Proof.KI.Point.lean ====
/-
  One grid point of the kernel: from the buffers' contents before it to their contents after it. The state after a point is
  a function of the penalised block and of the state before it (`nextSt`), and so are the two results (`outV`, `outI`) that
  the last point writes.
-/
module

public import proofs.«01_k».proof.Proof.KI.Part1

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What a point computes -/

/-- The five best of a block (masked values `v17`, columns `v12`) and of the five best so far (`v100`, `v102`), as the kernel
    computes them: the values, the columns, and the values padded to a whole row. -/
def topK (v12 : IVec S32x8192 32) (v17 : Vec F S32x8192 .f32) (v100 : Vec F S32x5 .f32) (v102 : Vec F S32x5 .i32) :
    Σ' (v160 : FVec F S32x5 .f32) (v161 : IVec S32x5 32), FVec F S32x128 .f32 :=
  let v43 := k0_pay18 v17
  let v49 := k0_pay19 v12 v17
  let v55 := k0_pay21 v12 v17
  let v61 := k0_pay22 v12 v17
  let v65 := k0_pay23 v12 v17
  let v67 := k0_pay24 v12 v17
  let v73 := k0_pay25 v12 v17
  let v75 := k0_pay26 v12 v17
  let cst : F .f32 := Scalar.ofBits .f32 0xFF800000#32
  let v103 := k0_pay33 v12 v49 v61 v65 v73 v75 cst v102
  let v105 := k0_pay34 v12 v43 v55 v65 v67 v75 cst v100
  let v111 := k0_pay35 v12 v43 v49 v55 v61 v65 v67 v73 v75 cst v100 v102
  let v115 := k0_pay36 v12 v43 v49 v55 v61 v65 v67 v73 v75 cst v100 v102
  let v117 := k0_pay37 v12 v43 v49 v55 v61 v65 v67 v73 v75 cst v100 v102
  let v119 := k0_pay38 v12 v43 v49 v55 v61 v65 v67 v73 v75 cst v100 v102
  ⟨k0_pay48 v103 v105 v115 v117 v119, k0_pay49 v103 v111 v115 v119, k0_pay50 v103 v105 v115 v117 v119⟩

/-- The five best at point `i`, with the penalised block `y` and the state `g` before it. -/
abbrev topAt (i : grid0.Coords) (y : S32x8192.Idx → Elt F .f32) (g : St F) :
    Σ' (v160 : FVec F S32x5 .f32) (v161 : IVec S32x5 32), FVec F S32x128 .f32 :=
  topK (k0_pay11 i) (k0_pay12 i y) (head5 g.tv) (head5 g.ti)

/-- The state after point `i`. -/
def nextSt (i : grid0.Coords) (y : S32x8192.Idx → Elt F .f32) (g : St F) : St F :=
  ⟨k0_pay16 (k0_pay15 i y (head1 g.m)), k0_pay17 (k0_pay14 i y (head1 g.m) (head1 g.s)), k0_pay1 (topAt i y g).2.2, k0_pay2 (topAt i y g).2.1⟩

/-- The first result, were `i` the last point. -/
def outV (i : grid0.Coords) (y : S32x8192.Idx → Elt F .f32) (g : St F) : S32x8.Idx → Elt F .f32 :=
  k0_pay3 (k0_pay13 i y (head1 g.m)) (k0_pay14 i y (head1 g.m) (head1 g.s)) (topAt i y g).1

/-- The second result, were `i` the last point. -/
def outI (i : grid0.Coords) (y : S32x8192.Idx → Elt F .f32) (g : St F) : S32x8.Idx → Elt F .i32 :=
  k0_pay4 (topAt i y g).2.1

/-- The whole of a result's block. -/
abbrev rOut : Rect S32x8 := Rect.unit (s := S32x8) ![0, 0] S32x8.size inb_S32x8_S32x8_0_0

section Body

variable (c : Dev nD) (i : grid0.Coords) (X : Buf (Elt F) (((c : Dev nD) : Thread nD τ).loc cc0_stg0_0)) (g : St F)

theorem body_wp (hX : Sorted X) (arg2 : Memref sig .tc .vmem S32x8192 .f32) (harg2 : arg2.IsWhole)
    (f2 : Buf (Elt F) (arg2.view.loc (c : Thread nD τ))) (x0 : Buf (Elt F) (((c : Dev nD) : Thread nD τ).loc cc0_scratch0))
    (o2 : Buf (Elt F) (((c : Dev nD) : Thread nD τ).loc cc0_stg2_0)) (o3 : Buf (Elt F) (((c : Dev nD) : Thread nD τ).loc cc0_stg3_0))
    (P : Buf (Elt F) (((c : Dev nD) : Thread nD τ).loc cc0_scratch5)) (hP : (i 0).val ≠ 0 → PtrRows X (i 0).val 0 P)
    (y : S32x8192.Idx → Elt F .f32) (hy : y = rowsPen X (i 0).val 32 (arg2.view.read (Elt F) f2))
    (st : St F) (hst : st = startSt i g) (K : PUnit → sProp 𝕄) :
    iprop((((c : Thread nD τ).loc cc0_stg0_0) ↦{fullShare} X) ∗ (arg2.view.loc (c : Thread nD τ) ↦[arg2.view.set]{fullShare} f2)
        ∗ (((c : Thread nD τ).loc cc0_stg2_0) ↦{fullShare} o2) ∗ (((c : Thread nD τ).loc cc0_stg3_0) ↦{fullShare} o3)
        ∗ (((c : Thread nD τ).loc cc0_scratch0) ↦{fullShare} x0) ∗ stBufs c g ∗ (((c : Thread nD τ).loc cc0_scratch5) ↦{fullShare} P)
        ∗ (∀ P' : Buf (Elt F) (((c : Dev nD) : Thread nD τ).loc cc0_scratch5), ⌜PtrRows X ((i 0).val + 1) 0 P'⌝ -∗
            ((((c : Thread nD τ).loc cc0_stg0_0) ↦{fullShare} X) ∗ (arg2.view.loc (c : Thread nD τ) ↦[arg2.view.set]{fullShare} f2)
              ∗ (((c : Thread nD τ).loc cc0_stg2_0) ↦{fullShare} (if (i 0).val = 122 then outV i y st else o2 : Buf (Elt F) (((c : Dev nD) : Thread nD τ).loc cc0_stg2_0)))
              ∗ (((c : Thread nD τ).loc cc0_stg3_0) ↦{fullShare} (if (i 0).val = 122 then outI i y st else o3 : Buf (Elt F) (((c : Dev nD) : Thread nD τ).loc cc0_stg3_0)))
              ∗ (∃ x1 : Buf (Elt F) (((c : Dev nD) : Thread nD τ).loc cc0_scratch0), ((c : Thread nD τ).loc cc0_scratch0) ↦{fullShare} x1)
              ∗ stBufs c (nextSt i y st) ∗ (((c : Thread nD τ).loc cc0_scratch5) ↦{fullShare} P'))
            -∗ K ⟨⟩))
      ⊢ wp frame (wpE (defs₀ (F := F)) 𝒱₀ (c : Thread nD τ) none) Set.univ (cc0__body i (Memref.whole cc0_stg0_0) (Memref.isWhole_whole _) arg2 harg2
         (Memref.whole cc0_stg2_0) (Memref.isWhole_whole _) (Memref.whole cc0_stg3_0) (Memref.isWhole_whole _) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _)) K := by
  subst hst
  simp only [cc0__body_eq_skeleton]; unfold cc0__body_skel
  iintro ⟨Hx, H2, Ho2, Ho3, Hs, Hg, Hp, Hk⟩
  rw [wp_bind]
  iapply (part1_wp c i X g hX arg2 harg2 f2 x0 P hP)
  isplitl [Hx]; · iexact Hx
  isplitl [H2]; · iexact H2
  isplitl [Hs]; · iexact Hs
  isplitl [Hg]; · iexact Hg
  isplitl [Hp]; · iexact Hp
  iintro %P' %hP' ⟨Hx, H2, Hs, Hg, Hp⟩
  rw [← hy]
  unfold stBufs ret1
  icases Hg with ⟨Hm, Hl, Htv, Hti⟩
  simp only [k0_part2_eq_skeleton, k0_part3_eq_skeleton, k0_part4_eq_skeleton]
  unfold k0_part2_skel k0_part3_skel k0_part4_skel
  simp only [Prog.lift, Prog.bind_op, Prog.bind_ret, Prog.pure_eq_ret]
  iapply (wp_load 𝒱₀ (c : Thread nD τ) none Set.univ (m := Memref.whole cc0_scratch1) (Finset.subset_univ _)) $$ Hm; iintro Hm
  iapply (wp_store 𝒱₀ (c : Thread nD τ) none Set.univ (m := Memref.whole cc0_scratch1) (r := rAll) (Mk := Finset.univ) (Finset.subset_univ _)) $$ Hm; iintro Hm
  rw [show ((Memref.whole cc0_scratch1).access rAll).write (Elt F) _ _ Finset.univ = _ from Memref.write_access_unit_zero_univ (Elt F) cc0_scratch1 z2 _ _ _]
  iapply (wp_load 𝒱₀ (c : Thread nD τ) none Set.univ (m := Memref.whole cc0_scratch2) (Finset.subset_univ _)) $$ Hl; iintro Hl
  iapply (wp_store 𝒱₀ (c : Thread nD τ) none Set.univ (m := Memref.whole cc0_scratch2) (r := rAll) (Mk := Finset.univ) (Finset.subset_univ _)) $$ Hl; iintro Hl
  rw [show ((Memref.whole cc0_scratch2).access rAll).write (Elt F) _ _ Finset.univ = _ from Memref.write_access_unit_zero_univ (Elt F) cc0_scratch2 z2 _ _ _]
  iapply (wp_load 𝒱₀ (c : Thread nD τ) none Set.univ (m := Memref.whole cc0_scratch3) (Finset.subset_univ _)) $$ Htv; iintro Htv
  iapply (wp_load 𝒱₀ (c : Thread nD τ) none Set.univ (m := Memref.whole cc0_scratch4) (Finset.subset_univ _)) $$ Hti; iintro Hti
  rw [read_tv, read_ti]
  iapply (wp_load 𝒱₀ (c : Thread nD τ) none Set.univ (m := Memref.whole cc0_scratch3) (Finset.subset_univ _)) $$ Htv; iintro Htv
  iapply (wp_store 𝒱₀ (c : Thread nD τ) none Set.univ (m := Memref.whole cc0_scratch3) (r := rAll) (Mk := Finset.univ) (Finset.subset_univ _)) $$ Htv; iintro Htv
  rw [show ((Memref.whole cc0_scratch3).access rAll).write (Elt F) _ _ Finset.univ = _ from Memref.write_access_unit_zero_univ (Elt F) cc0_scratch3 z2 _ _ _]
  iapply (wp_load 𝒱₀ (c : Thread nD τ) none Set.univ (m := Memref.whole cc0_scratch4) (Finset.subset_univ _)) $$ Hti; iintro Hti
  iapply (wp_store 𝒱₀ (c : Thread nD τ) none Set.univ (m := Memref.whole cc0_scratch4) (r := rAll) (Mk := Finset.univ) (Finset.subset_univ _)) $$ Hti; iintro Hti
  rw [show ((Memref.whole cc0_scratch4).access rAll).write (Elt F) _ _ Finset.univ = _ from Memref.write_access_unit_zero_univ (Elt F) cc0_scratch4 z2 _ _ _]
  by_cases h3 : k0_cond3 i = 1#1
  · have hi := (cond3_iff i).1 h3
    rw [dif_pos h3, if_pos hi, if_pos hi]
    simp only [Prog.lift, Prog.bind_op, Prog.bind_ret, Prog.pure_eq_ret]
    iapply (wp_load 𝒱₀ (c : Thread nD τ) none Set.univ (m := Memref.whole cc0_stg2_0) (Finset.subset_univ _)) $$ Ho2; iintro Ho2
    iapply (wp_store 𝒱₀ (c : Thread nD τ) none Set.univ (m := Memref.whole cc0_stg2_0) (r := rOut) (Mk := Finset.univ) (Finset.subset_univ _)) $$ Ho2; iintro Ho2
    rw [show ((Memref.whole cc0_stg2_0).access rOut).write (Elt F) _ _ Finset.univ = _ from Memref.write_access_unit_zero_univ (Elt F) cc0_stg2_0 z2 _ _ _]
    iapply (wp_load 𝒱₀ (c : Thread nD τ) none Set.univ (m := Memref.whole cc0_stg3_0) (Finset.subset_univ _)) $$ Ho3; iintro Ho3
    iapply (wp_store 𝒱₀ (c : Thread nD τ) none Set.univ (m := Memref.whole cc0_stg3_0) (r := rOut) (Mk := Finset.univ) (Finset.subset_univ _)) $$ Ho3; iintro Ho3
    rw [show ((Memref.whole cc0_stg3_0).access rOut).write (Elt F) _ _ Finset.univ = _ from Memref.write_access_unit_zero_univ (Elt F) cc0_stg3_0 z2 _ _ _]
    rw [wp_ret]; imodintro
    iapply Hk
    · ipureintro; exact hP'
    isplitl [Hx]; · iexact Hx
    isplitl [H2]; · iexact H2
    isplitl [Ho2]; · iexact Ho2
    isplitl [Ho3]; · iexact Ho3
    isplitl [Hs]; · iexact Hs
    isplitl [Hm Hl Htv Hti]
    · isplitl [Hm]; · iexact Hm
      isplitl [Hl]; · iexact Hl
      isplitl [Htv]; · iexact Htv
      iexact Hti
    iexact Hp
  · have hi : ¬ (i 0).val = 122 := fun e => h3 ((cond3_iff i).2 e)
    rw [dif_neg h3, if_neg hi, if_neg hi]
    simp only [Prog.lift, Prog.bind_op, Prog.bind_ret, Prog.pure_eq_ret]
    rw [wp_ret]; imodintro
    iapply Hk
    · ipureintro; exact hP'
    isplitl [Hx]; · iexact Hx
    isplitl [H2]; · iexact H2
    isplitl [Ho2]; · iexact Ho2
    isplitl [Ho3]; · iexact Ho3
    isplitl [Hs]; · iexact Hs
    isplitl [Hm Hl Htv Hti]
    · isplitl [Hm]; · iexact Hm
      isplitl [Hl]; · iexact Hl
      isplitl [Htv]; · iexact Htv
      iexact Hti
    iexact Hp

end Body

end Cert.Proof.KI

end
-- ==== Proof.KI.Data.lean ====
/-
  What the kernel's buffers hold at each point of its grid. `ids` are the sorted token ids (the host sorts before the
  kernel); `blkAt` is the vocabulary block as the pipeline fetches it (the last block overhangs the array, and past the
  array's end the staging buffer keeps what it held: `d`); `yAt` is the block with the row penalties applied; `stateAt` the
  four running statistics, from the initial ones by `nextSt`. `dats` collects them for the pipeline.
-/
module

public import proofs.«01_k».proof.Proof.KI.Point
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Window)

/-! ### The mask of the columns past the vocabulary's end -/

/-- The masked block at `j`: the block's value inside the vocabulary, `−∞` past its end. -/
theorem pay12_apply (i : grid0.Coords) (y : S32x8192.Idx → Elt F .f32) (j : S32x8192.Idx) :
    k0_pay12 i y j = if (i 0).val * 8192 + (j 1).val < 1000000 then y j else Scalar.ofBits .f32 0xFF800000#32 := by
  have hi : (i 0).val < 123 := (i 0).isLt
  have hj : (j 1).val < 8192 := (j 1).isLt
  have hw : k0_pay11 i j = BitVec.ofNat 32 ((i 0).val * 8192 + (j 1).val) := by
    show IntOp.addi (Scalar.muli (BitVec.ofNat 32 (i 0).val) 8192#32) (iota .tc S32x8192 32 [1] iota_S32x8192_d1_w32 j) = _
    rw [iota_single_apply, base_eq]
    show BitVec.ofNat 32 _ + BitVec.ofNat 32 _ = _
    rw [← BitVec.ofNat_add]
  show Scalar.select (IntOp.cmpi .slt (k0_pay11 i j) 1000000#32) (y j) (Scalar.ofBits .f32 0xFF800000#32) = _
  rw [hw, show (1000000#32 : BitVec 32) = BitVec.ofNat 32 1000000 from rfl]
  have h := slt_small ((i 0).val * 8192 + (j 1).val) 1000000 (by omega) (by omega)
  refine (congrArg (fun b => Scalar.select b (y j) (Scalar.ofBits .f32 0xFF800000#32)) h).trans ?_
  by_cases hb : (i 0).val * 8192 + (j 1).val < 1000000
  · rw [if_pos hb, if_pos hb]; exact if_pos rfl
  · rw [if_neg hb, if_neg hb]; exact if_neg (by decide)

/-- Two blocks equal inside the vocabulary are equal once masked. -/
theorem pay12_congr (i : grid0.Coords) (y y' : S32x8192.Idx → Elt F .f32)
    (h : ∀ j : S32x8192.Idx, (i 0).val * 8192 + (j 1).val < 1000000 → y j = y' j) : k0_pay12 i y = k0_pay12 i y' := by
  funext j; rw [pay12_apply, pay12_apply]; split
  · next hj => exact h j hj
  · rfl

variable (i : grid0.Coords) (y y' : S32x8192.Idx → Elt F .f32) (g : St F)

/-- The point reads its block only masked: the state after it, -/
theorem nextSt_congr (h : k0_pay12 i y = k0_pay12 i y') : nextSt i y g = nextSt i y' g := by
  have h13 : ∀ v, k0_pay13 i y v = k0_pay13 i y' v := fun v => by unfold k0_pay13; rw [h]
  have h14 : ∀ v w, k0_pay14 i y v w = k0_pay14 i y' v w := fun v w => by unfold k0_pay14; rw [h, h13]
  have h15 : ∀ v, k0_pay15 i y v = k0_pay15 i y' v := fun v => by unfold k0_pay15; rw [h13]
  unfold nextSt topAt; rw [h, h14, h15]

/-- the first result, -/
theorem outV_congr (h : k0_pay12 i y = k0_pay12 i y') : outV i y g = outV i y' g := by
  have h13 : ∀ v, k0_pay13 i y v = k0_pay13 i y' v := fun v => by unfold k0_pay13; rw [h]
  have h14 : ∀ v w, k0_pay14 i y v w = k0_pay14 i y' v w := fun v w => by unfold k0_pay14; rw [h, h13]
  unfold outV topAt; rw [h, h13, h14]

/-- and the second. -/
theorem outI_congr (h : k0_pay12 i y = k0_pay12 i y') : outI i y g = outI i y' g := by
  unfold outI topAt; rw [h]

/-! ### The contents -/

section Contents

variable (m : (ℓ : Loc nD τ sig) → Buf (Elt F) ℓ) (c : Dev nD)

/-- The memory of core `c`'s device after the host's sort. -/
abbrev V₀ : Valuation τ sig (Elt F) := StableHlo.after hostOps0 fun b => m (c, b)

/-- The sorted ids. -/
abbrev ids : S32x200.Idx → Elt F .i32 := V₀ m c (Proc.devRef .tc main_v0)

/-- The vocabulary block point `t` is handed, over what the staging buffer held. -/
def blkAt (t : Fin grid0.N) (d : S32x8192.Idx → Elt F .f32) : S32x8192.Idx → Elt F .f32 :=
  win0_1.fill (grid0.coords t) d ((win0_1.blk t).view.read (Elt F) (V₀ m c (Proc.devRef .tc main_arg0)))

/-- The same with a fixed value past the array's end. -/
def blk0 (t : Fin grid0.N) : S32x8192.Idx → Elt F .f32 := blkAt m c t fun _ => Scalar.ofBits .f32 0#32

/-- The block with its row penalties. -/
def yAt (t : Fin grid0.N) : S32x8192.Idx → Elt F .f32 := rowsPen (ids m c) t.val 32 (blk0 m c t)

/-- The statistics before point `n`. -/
def stateAt : ℕ → St F
  | 0 => initSt
  | n + 1 => if h : n < grid0.N then nextSt (grid0.coords ⟨n, h⟩) (yAt m c ⟨n, h⟩) (stateAt n) else initSt

theorem stateAt_succ (t : Fin grid0.N) : stateAt m c (t.val + 1) = nextSt (grid0.coords t) (yAt m c t) (stateAt m c t.val) := by
  rw [stateAt, dif_pos t.isLt]

/-- The columns the fetch moves are those inside the vocabulary. -/
theorem moved_of_lt (t : Fin grid0.N) (j : S32x8192.Idx) (h : t.val * 8192 + (j 1).val < 1000000) :
    win0_1.moved (grid0.coords t) j = true := by
  refine (win0_1.moved_iff _ j).2 fun a => ?_
  have hj0 : (j 0).val < 32 := (j 0).isLt
  have hj1 : (j 1).val < 8192 := (j 1).isLt
  have ht : t.val < 123 := lt_of_lt_of_eq t.isLt N_0
  have hw : (BitVec.ofNat 32 (grid0.coords t 0).val).toNat = t.val := by
    rw [coords_val]; exact toNat_small _ (by omega)
  match a with
  | ⟨0, _⟩ =>
    show (j 0).val < (Pipeline.Clip.of 0 32 32).extent 32
    exact hj0
  | ⟨1, _⟩ =>
    show (j 1).val < (Pipeline.Clip.of (BitVec.ofNat 32 (grid0.coords t 0).val).toNat 8192 1000000).extent 8192
    rw [hw]
    unfold Pipeline.Clip.of
    split
    · exact hj1
    · show (j 1).val < 1000000 - t.val * 8192
      omega

theorem blkAt_congr (t : Fin grid0.N) (d d' : S32x8192.Idx → Elt F .f32) (j : S32x8192.Idx)
    (h : t.val * 8192 + (j 1).val < 1000000) : blkAt m c t d j = blkAt m c t d' j := by
  unfold blkAt Window.fill
  rw [dif_pos (moved_of_lt t j h), dif_pos (moved_of_lt t j h)]

/-- Whatever the staging buffer held, the point's masked block is the same. -/
theorem yAt_eq (t : Fin grid0.N) (d : S32x8192.Idx → Elt F .f32) :
    k0_pay12 (grid0.coords t) (rowsPen (ids m c) (grid0.coords t 0).val 32 (blkAt m c t d)) = k0_pay12 (grid0.coords t) (yAt m c t) := by
  refine pay12_congr _ _ _ fun j hj => ?_
  rw [coords_val] at hj ⊢
  unfold yAt blk0 rowsPen
  dsimp only
  rw [blkAt_congr m c t d (fun _ => Scalar.ofBits .f32 0#32) j hj]

/-- The region's invariant before point `t`: the scratch buffers, with the statistics at `stateAt` and the row pointers
    past every id of an earlier block (at the first point, at anything), and the generator's register. -/
def Φ (t : Fin (grid0.N + 1)) : sProp 𝕄 :=
  iprop(∃ (x0 : Buf (Elt F) (((c : Dev nD) : Thread nD τ).loc cc0_scratch0)) (g : St F) (P : Buf (Elt F) (((c : Dev nD) : Thread nD τ).loc cc0_scratch5)),
    ⌜t.val ≠ 0 → g = stateAt m c t.val ∧ PtrRows (ids m c) t.val 0 P⌝
    ∗ (((c : Thread nD τ).loc cc0_scratch0) ↦{fullShare} x0) ∗ stBufs c g ∗ (((c : Thread nD τ).loc cc0_scratch5) ↦{fullShare} P)
    ∗ (∃ r, prngReg c r))

/-- The pipeline's proof data: the arrays after the host's sort; after the body, the ids and the block as fetched and the
    two results at what the last point writes. -/
def dats (_ : Fin 1) (c : Dev nD) : Dat τ (Elt F) Unit ℕ (UR sig nD τ) ℕ (cfg0 (F := F)) c where
  A w := V₀ m c (Proc.devRef .tc (Pipeline.arrRef spec0 w))
  after w t := match w with
    | ⟨0, _⟩ => ids m c
    | ⟨1, _⟩ => blk0 m c t
    | ⟨2, _⟩ => outV (grid0.coords t) (yAt m c t) (stateAt m c t.val)
    | ⟨3, _⟩ => outI (grid0.coords t) (yAt m c t) (stateAt m c t.val)
  Φ t := Φ m c t
  q _ := fullShare
  owed _ := 0

theorem after_0 (t : Fin (cfg0 (F := F)).N) : (dats m 0 c).after 0 t = ids m c := by dsimp only [dats]; rfl
theorem after_1 (t : Fin (cfg0 (F := F)).N) : (dats m 0 c).after 1 t = blk0 m c t := by dsimp only [dats]; rfl
theorem after_2 (t : Fin (cfg0 (F := F)).N) :
    (dats m 0 c).after 2 t = outV (grid0.coords t) (yAt m c t) (stateAt m c t.val) := by dsimp only [dats]; rfl
theorem after_3 (t : Fin (cfg0 (F := F)).N) :
    (dats m 0 c).after 3 t = outI (grid0.coords t) (yAt m c t) (stateAt m c t.val) := by dsimp only [dats]; rfl

/-- The ids' block is the whole array. -/
theorem blockOf_0 (t : Fin (cfg0 (F := F)).N) : (dats m 0 c).blockOf 0 t = fun j => ids m c ((win0_0).xinj (grid0.coords t) j) := by
  funext j
  unfold Dat.blockOf
  rw [View.read_apply]
  show ids m c _ = ids m c _
  congr 1
  funext a; apply Fin.ext
  match a with
  | ⟨0, _⟩ => show 0 * 32 + 1 * (j (0 : Fin 2)).val = (j (0 : Fin 2)).val; omega
  | ⟨1, _⟩ => show 0 * 200 + 1 * (j (1 : Fin 2)).val = (j (1 : Fin 2)).val; omega

theorem fetched_0 (t : Fin (cfg0 (F := F)).N) (d) : (dats m 0 c).fetched 0 t d = ids m c := by
  unfold Dat.fetched
  rw [blockOf_0]
  exact (win0_0).fill_cut (grid0.coords t) (ids m c) ▸ rfl

theorem before_0 (t : Fin (cfg0 (F := F)).N) (d) : (dats m 0 c).before 0 t d = ids m c := by
  rw [Dat.before_in_eq_fetched (dats m 0 c) 0 rfl (fun _ => rfl) (fun _ _ _ => rfl) (fun t => by rw [blockOf_0, after_0]; rfl) t d]
  exact fetched_0 m c t d

theorem before_1 (t : Fin (cfg0 (F := F)).N) (d) : (dats m 0 c).before 1 t d = blkAt m c t d := by
  rw [Dat.before_fetched _ _ _ (fetch0_1 t)]
  rfl

end Contents

end Cert.Proof.KI

end
-- ==== Proof.KI.Body.lean ====
/-
  The body obligation: at every grid point the kernel's body, holding the four staging buffers and the invariant's scratch,
  takes the invariant to the next point and leaves the staging buffers at what `dats` says.
-/
module

public import proofs.«01_k».proof.Proof.KI.Data

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Window BodyObligationLoose)

variable (m : (ℓ : Loc nD τ sig) → Buf (Elt F) ℓ) (c : Dev nD)

/-- Holding a whole buffer at contents `X` is its points-to at `X`. -/
theorem owns_whole (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The two results are not touched before the last point, -/
theorem idle_out (t : Fin (cfg0 (F := F)).N) (h : t.val ≠ 122) : k0_cond3 (grid0.coords t) ≠ 1#1 := fun e => h (by
  have := (cond3_iff _).1 e; rwa [coords_val] at this)

theorem live_out (t : Fin (cfg0 (F := F)).N) (h : t.val = 122) : k0_cond3 (grid0.coords t) = 1#1 :=
  (cond3_iff _).2 (by rw [coords_val]; exact h)

variable (hX : Sorted (ids m c))

include hX in
theorem sound_body (t : Fin grid0.N) (arg2 : Memref sig .tc .vmem S32x8192 .f32) (harg2 : arg2.IsWhole)
    (d : S32x8192.Idx → Elt F .f32) (o2 : Buf (Elt F) (((c : Dev nD) : Thread nD τ).loc cc0_stg2_0))
    (o3 : Buf (Elt F) (((c : Dev nD) : Thread nD τ).loc cc0_stg3_0)) (K : PUnit → sProp 𝕄) :
    iprop(Φ m c t.castSucc ∗ (((c : Thread nD τ).loc cc0_stg0_0) ↦{fullShare} (ids m c : Buf (Elt F) (((c : Dev nD) : Thread nD τ).loc cc0_stg0_0)))
        ∗ owns (c : Thread nD τ) arg2 fullShare (blkAt m c t d)
        ∗ (((c : Thread nD τ).loc cc0_stg2_0) ↦{fullShare} o2) ∗ (((c : Thread nD τ).loc cc0_stg3_0) ↦{fullShare} o3)
        ∗ ((Φ m c t.succ ∗ (((c : Thread nD τ).loc cc0_stg0_0) ↦{fullShare} (ids m c : Buf (Elt F) (((c : Dev nD) : Thread nD τ).loc cc0_stg0_0)))
            ∗ owns (c : Thread nD τ) arg2 fullShare (blkAt m c t d)
            ∗ (((c : Thread nD τ).loc cc0_stg2_0) ↦{fullShare}
                (if t.val = 122 then outV (grid0.coords t) (yAt m c t) (stateAt m c t.val) else o2 : Buf (Elt F) (((c : Dev nD) : Thread nD τ).loc cc0_stg2_0)))
            ∗ (((c : Thread nD τ).loc cc0_stg3_0) ↦{fullShare}
                (if t.val = 122 then outI (grid0.coords t) (yAt m c t) (stateAt m c t.val) else o3 : Buf (Elt F) (((c : Dev nD) : Thread nD τ).loc cc0_stg3_0))))
          -∗ K ⟨⟩))
      ⊢ wp frame (wpE (defs₀ (F := F)) 𝒱₀ (c : Thread nD τ) none) Set.univ (cc0__body (grid0.coords t) (Memref.whole cc0_stg0_0) (Memref.isWhole_whole _) arg2 harg2
         (Memref.whole cc0_stg2_0) (Memref.isWhole_whole _) (Memref.whole cc0_stg3_0) (Memref.isWhole_whole _) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _)) K := by
  unfold Φ owns
  iintro ⟨⟨%x0, %g, %P, %hg, Hs, Hg, Hp, Hr⟩, Hx, ⟨%f2, %hf2, H2⟩, Ho2, Ho3, Hk⟩
  have hg' : t.val ≠ 0 → g = stateAt m c t.val ∧ PtrRows (ids m c) t.val 0 P := hg
  have hst : startSt (grid0.coords t) g = stateAt m c t.val := by
    unfold startSt
    rw [coords_val]
    by_cases h0 : t.val = 0
    · rw [if_pos h0, h0]; rfl
    · rw [if_neg h0]; exact (hg' h0).1
  have hpay := yAt_eq m c t d
  have hnext := nextSt_congr (grid0.coords t) _ _ (stateAt m c t.val) hpay
  have houtV := outV_congr (grid0.coords t) _ _ (stateAt m c t.val) hpay
  have houtI := outI_congr (grid0.coords t) _ _ (stateAt m c t.val) hpay
  iapply (body_wp c (grid0.coords t) (ids m c) g hX arg2 harg2 f2 x0 o2 o3 P
    (fun h => by rw [coords_val] at h ⊢; exact (hg' h).2)
    (rowsPen (ids m c) (grid0.coords t 0).val 32 (blkAt m c t d)) (by rw [hf2]) (stateAt m c t.val) hst.symm)
  isplitl [Hx]; · iexact Hx
  isplitl [H2]; · iexact H2
  isplitl [Ho2]; · iexact Ho2
  isplitl [Ho3]; · iexact Ho3
  isplitl [Hs]; · iexact Hs
  isplitl [Hg]; · iexact Hg
  isplitl [Hp]; · iexact Hp
  iintro %P' %hP' ⟨Hx, H2, Ho2, Ho3, ⟨%x1, Hs⟩, Hg, Hp⟩
  rw [hnext, houtV, houtI, ← stateAt_succ]
  rw [coords_val] at hP' ⊢
  iapply Hk
  isplitl [Hs Hg Hp Hr]
  · iexists x1, stateAt m c (t.val + 1), P'
    isplitr; · (ipureintro; exact fun _ => ⟨rfl, hP'⟩)
    isplitl [Hs]; · iexact Hs
    isplitl [Hg]; · iexact Hg
    isplitl [Hp]; · iexact Hp
    iexact Hr
  isplitl [Hx]; · iexact Hx
  isplitl [H2]
  · iexists f2
    isplitr; · (ipureintro; exact hf2)
    iexact H2
  isplitl [Ho2]; · iexact Ho2
  iexact Ho3

/-! ### The staging buffers at a point -/

theorem own_0 (t : Fin (cfg0 (F := F)).N) (X : S32x200.Idx → Elt F .i32) :
    (owns (Ix := Unit) (Name := ℕ) (U := UR sig nD τ) (Lvl := ℕ) (c : Thread nD τ) (st0_0 (F := F) t) fullShare X : sProp 𝕄) = stg c cc0_stg0_0 X :=
  (congrArg (fun s : Fin 1 => (owns (Ix := Unit) (Name := ℕ) (U := UR sig nD τ) (Lvl := ℕ) (c : Thread nD τ) (stage0_0 s) fullShare X : sProp 𝕄))
    (Subsingleton.elim (α := Fin 1) ((cfg0 (F := F)).slots t 0) 0)).trans (owns_whole c cc0_stg0_0 X)

theorem own_2 (t : Fin (cfg0 (F := F)).N) (X : S32x8.Idx → Elt F .f32) :
    (owns (Ix := Unit) (Name := ℕ) (U := UR sig nD τ) (Lvl := ℕ) (c : Thread nD τ) (st0_2 (F := F) t) fullShare X : sProp 𝕄) = stg c cc0_stg2_0 X :=
  (congrArg (fun s : Fin 1 => (owns (Ix := Unit) (Name := ℕ) (U := UR sig nD τ) (Lvl := ℕ) (c : Thread nD τ) (stage0_2 s) fullShare X : sProp 𝕄))
    (Subsingleton.elim (α := Fin 1) ((cfg0 (F := F)).slots t 2) 0)).trans (owns_whole c cc0_stg2_0 X)

theorem own_3 (t : Fin (cfg0 (F := F)).N) (X : S32x8.Idx → Elt F .i32) :
    (owns (Ix := Unit) (Name := ℕ) (U := UR sig nD τ) (Lvl := ℕ) (c : Thread nD τ) (st0_3 (F := F) t) fullShare X : sProp 𝕄) = stg c cc0_stg3_0 X :=
  (congrArg (fun s : Fin 1 => (owns (Ix := Unit) (Name := ℕ) (U := UR sig nD τ) (Lvl := ℕ) (c : Thread nD τ) (stage0_3 s) fullShare X : sProp 𝕄))
    (Subsingleton.elim (α := Fin 1) ((cfg0 (F := F)).slots t 3) 0)).trans (owns_whole c cc0_stg3_0 X)

theorem leaves_0 (t : Fin (cfg0 (F := F)).N) : (dats m 0 c).leaves 0 t = stg c cc0_stg0_0 (ids m c) :=
  (show (dats m 0 c).leaves 0 t = owns c (st0_0 t) fullShare ((dats m 0 c).after 0 t) from rfl).trans
    (by rw [after_0]; exact own_0 c t _)

theorem leaves_1 (t : Fin (cfg0 (F := F)).N) : (dats m 0 c).leaves 1 t
    = iprop(∃ d, owns c (st0_1 t) fullShare (win0_1.fill (grid0.coords t) d (win0_1.cut (grid0.coords t) (blk0 m c t)))) :=
  (show (dats m 0 c).leaves 1 t = iprop(∃ d, owns c (st0_1 t) fullShare
      (win0_1.fill (grid0.coords t) d (win0_1.cut (grid0.coords t) ((dats m 0 c).after 1 t)))) from rfl).trans
    (by rw [after_1]; rfl)

/-- The block as fetched over `d` is `d` with the fetched part, whatever it was first fetched over. -/
theorem blkAt_fill (t : Fin grid0.N) (d : S32x8192.Idx → Elt F .f32) :
    blkAt m c t d = win0_1.fill (grid0.coords t) d (win0_1.cut (grid0.coords t) (blk0 m c t)) := by
  unfold blk0 blkAt
  rw [Window.cut_fill]

theorem flush_2 (t : Fin (cfg0 (F := F)).N) (h : t.val ≠ 122) : ((cfg0 (F := F)).win 2).flush t = false := by
  rw [← Bool.not_eq_true, flush0_2]
  have := lt_of_lt_of_eq t.isLt N_0
  omega

theorem flush_3 (t : Fin (cfg0 (F := F)).N) (h : t.val ≠ 122) : ((cfg0 (F := F)).win 3).flush t = false := by
  rw [← Bool.not_eq_true, flush0_3]
  have := lt_of_lt_of_eq t.isLt N_0
  omega

theorem idle_2 (t : Fin (cfg0 (F := F)).N) : (cfg0 (F := F)).idle 2 ((cfg0 (F := F)).grid.coords t) = !(k0_cond3 (grid0.coords t) == 1#1) := rfl
theorem idle_3 (t : Fin (cfg0 (F := F)).N) : (cfg0 (F := F)).idle 3 ((cfg0 (F := F)).grid.coords t) = !(k0_cond3 (grid0.coords t) == 1#1) := rfl

theorem leaves_2 (t : Fin (cfg0 (F := F)).N) (d) (o : S32x8.Idx → Elt F .f32) (ho : o = (dats m 0 c).before 2 t d) (f : S32x8.Idx → Elt F .f32)
    (hf : f = if t.val = 122 then outV (grid0.coords t) (yAt m c t) (stateAt m c t.val) else o) :
    stg c cc0_stg2_0 f ⊢ (dats m 0 c).leaves 2 t := by
  by_cases h : t.val = 122
  · rw [if_pos h] at hf
    subst hf
    have hi : (cfg0 (F := F)).idle 2 ((cfg0 (F := F)).grid.coords t) = false := by rw [idle_2, live_out t h]; rfl
    unfold Dat.leaves
    rw [hi]
    rw [show (cfg0 (F := F)).loose 2 = false from rfl]
    refine BIBase.Entails.of_eq ?_
    rw [after_2]
    exact (own_2 c t _).symm
  · rw [if_neg h] at hf
    subst hf
    have hi : (cfg0 (F := F)).idle 2 ((cfg0 (F := F)).grid.coords t) = true := by rw [idle_2, beq_false_of_ne (idle_out t h)]; rfl
    rw [Dat.leaves_idle _ _ _ hi (flush_2 t h)]
    rw [show stg c cc0_stg2_0 f = owns c (st0_2 t) fullShare f from (own_2 c t _).symm, ho]
    iintro H; iexists d; iexact H

theorem leaves_3 (t : Fin (cfg0 (F := F)).N) (d) (o : S32x8.Idx → Elt F .i32) (ho : o = (dats m 0 c).before 3 t d) (f : S32x8.Idx → Elt F .i32)
    (hf : f = if t.val = 122 then outI (grid0.coords t) (yAt m c t) (stateAt m c t.val) else o) :
    stg c cc0_stg3_0 f ⊢ (dats m 0 c).leaves 3 t := by
  by_cases h : t.val = 122
  · rw [if_pos h] at hf
    subst hf
    have hi : (cfg0 (F := F)).idle 3 ((cfg0 (F := F)).grid.coords t) = false := by rw [idle_3, live_out t h]; rfl
    unfold Dat.leaves
    rw [hi]
    rw [show (cfg0 (F := F)).loose 3 = false from rfl]
    refine BIBase.Entails.of_eq ?_
    rw [after_3]
    exact (own_3 c t _).symm
  · rw [if_neg h] at hf
    subst hf
    have hi : (cfg0 (F := F)).idle 3 ((cfg0 (F := F)).grid.coords t) = true := by rw [idle_3, beq_false_of_ne (idle_out t h)]; rfl
    rw [Dat.leaves_idle _ _ _ hi (flush_3 t h)]
    rw [show stg c cc0_stg3_0 f = owns c (st0_3 t) fullShare f from (own_3 c t _).symm, ho]
    iintro H; iexists d; iexact H

/-- The body the pipeline calls at point `t` is the kernel's on the whole staging buffers (the logits' block on its current one). -/
theorem bodyAt_eq (t : Fin (cfg0 (F := F)).N) : bodyAt0 (F := F) t
    = cc0__body (grid0.coords t) (Memref.whole cc0_stg0_0) (Memref.isWhole_whole _) (st0_1 (F := F) t) (hstage0_1 (((cfg0 (F := F)).slots t 1).cast nbuf0_1))
         (Memref.whole cc0_stg2_0) (Memref.isWhole_whole _) (Memref.whole cc0_stg3_0) (Memref.isWhole_whole _) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _) := by
  have key : ∀ a b d : Fin 1,
      cc0__body (F := F) (grid0.coords t) (stage0_0 a) (hstage0_0 a) (st0_1 (F := F) t) (hstage0_1 (((cfg0 (F := F)).slots t 1).cast nbuf0_1))
         (stage0_2 b) (hstage0_2 b) (stage0_3 d) (hstage0_3 d) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _)
      = cc0__body (F := F) (grid0.coords t) (stage0_0 0) (hstage0_0 0) (st0_1 (F := F) t) (hstage0_1 (((cfg0 (F := F)).slots t 1).cast nbuf0_1))
         (stage0_2 0) (hstage0_2 0) (stage0_3 0) (hstage0_3 0) (Memref.whole cc0_scratch0) (Memref.isWhole_whole _)
         (Memref.whole cc0_scratch1) (Memref.isWhole_whole _) (Memref.whole cc0_scratch2) (Memref.isWhole_whole _) (Memref.whole cc0_scratch3) (Memref.isWhole_whole _)
         (Memref.whole cc0_scratch4) (Memref.isWhole_whole _) (Memref.whole cc0_scratch5) (Memref.isWhole_whole _) := by
    intro a b d
    obtain rfl : a = 0 := Subsingleton.elim _ _
    obtain rfl : b = 0 := Subsingleton.elim _ _
    obtain rfl : d = 0 := Subsingleton.elim _ _
    rfl
  exact key ((cfg0 (F := F)).slots t 0) ((cfg0 (F := F)).slots t 2) ((cfg0 (F := F)).slots t 3)

include hX in
theorem body_obligation : BodyObligationLoose (dats m 0 c) (defs₀ (F := F)) 𝒱₀ () Set.univ := fun t => by
  rw [bigSep_W0, bigSep_W0]
  show iprop(Φ m c t.castSucc ∗ (dats m 0 c).owesAt () t.castSucc
      ∗ (∃ d, owns c (st0_0 t) fullShare ((dats m 0 c).before 0 t d)) ∗ (∃ d, owns c (st0_1 t) fullShare ((dats m 0 c).before 1 t d))
      ∗ (∃ d, owns c (st0_2 t) fullShare ((dats m 0 c).before 2 t d)) ∗ (∃ d, owns c (st0_3 t) fullShare ((dats m 0 c).before 3 t d)))
    ⊢ wp frame (wpE (defs₀ (F := F)) 𝒱₀ (c : Thread nD τ) none) Set.univ (bodyAt0 t) fun _ =>
      iprop(Φ m c t.succ ∗ (dats m 0 c).owesAt () t.succ
        ∗ (dats m 0 c).leaves 0 t ∗ (dats m 0 c).leaves 1 t ∗ (dats m 0 c).leaves 2 t ∗ (dats m 0 c).leaves 3 t)
  rw [bodyAt_eq]
  have e0 : ∀ d, owns (Ix := Unit) (Name := ℕ) (U := UR sig nD τ) (Lvl := ℕ) (c : Thread nD τ) (st0_0 (F := F) t) fullShare ((dats m 0 c).before 0 t d)
      = (stg c cc0_stg0_0 (ids m c) : sProp 𝕄) := fun d => by rw [before_0]; exact own_0 c t _
  have e1 : ∀ d, owns (Ix := Unit) (Name := ℕ) (U := UR sig nD τ) (Lvl := ℕ) (c : Thread nD τ) (st0_1 (F := F) t) fullShare ((dats m 0 c).before 1 t d)
      = (owns (c : Thread nD τ) (st0_1 (F := F) t) fullShare (blkAt m c t d) : sProp 𝕄) := fun d => by rw [before_1]
  have e2 : ∀ d, owns (Ix := Unit) (Name := ℕ) (U := UR sig nD τ) (Lvl := ℕ) (c : Thread nD τ) (st0_2 (F := F) t) fullShare ((dats m 0 c).before 2 t d)
      = (stg c cc0_stg2_0 ((dats m 0 c).before 2 t d) : sProp 𝕄) := fun d => own_2 c t _
  have e3 : ∀ d, owns (Ix := Unit) (Name := ℕ) (U := UR sig nD τ) (Lvl := ℕ) (c : Thread nD τ) (st0_3 (F := F) t) fullShare ((dats m 0 c).before 3 t d)
      = (stg c cc0_stg3_0 ((dats m 0 c).before 3 t d) : sProp 𝕄) := fun d => own_3 c t _
  refine BIBase.Entails.trans (BIClass.sep_mono (BIBase.Entails.rfl) (BIClass.sep_mono (BIBase.Entails.rfl) (BIClass.sep_mono (exists_mono fun d => BIBase.Entails.of_eq (e0 d)) (BIClass.sep_mono (exists_mono fun d => BIBase.Entails.of_eq (e1 d))
    (BIClass.sep_mono (exists_mono fun d => BIBase.Entails.of_eq (e2 d)) (exists_mono fun d => BIBase.Entails.of_eq (e3 d))))))) ?_
  rw [leaves_0, leaves_1]
  iintro ⟨HΦ, Howes, ⟨%d0, %f0, %hf0, H0⟩, ⟨%d1, H1⟩, ⟨%d2, %f2, %hf2, H2⟩, ⟨%d3, %f3, %hf3, H3⟩⟩
  subst hf0
  iapply (sound_body m c hX t _ _ d1 f2 f3)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Howes]; · iexact Howes
  isplitl [H0]
  · iexists _; isplitr; · (ipureintro; rfl)
    iexact H0
  isplitl [H1]
  · iexists d1
    iapply (BIBase.Entails.of_eq (congrArg (fun X => owns (Ix := Unit) (Name := ℕ) (U := UR sig nD τ) (Lvl := ℕ) (c : Thread nD τ) (st0_1 (F := F) t) fullShare X) (blkAt_fill m c t d1)))
    iexact H1
  isplitl [H2]
  · iapply (leaves_2 m c t d2 f2 hf2 _ rfl)
    iexists _; isplitr; swap; · iexact H2
    ipureintro; rfl
  · iapply (leaves_3 m c t d3 f3 hf3 _ rfl)
    iexists _; isplitr; swap; · iexact H3
    ipureintro; rfl

end Cert.Proof.KI

end
-- ==== Proof.KI.Run.lean ====
/-
  The run of @main: the host's sort, the kernel over its 123 points, the two slices of its results. Every run ends, the
  arguments are unchanged, the two results are the slices of what the last point writes, and every semaphore is at zero.
-/
module

public import proofs.«01_k».proof.Proof.KI.Body
public import Idealize.ShloMosaic.Lib.Pipeline.Value

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Window BodyObligationLoose)

variable (m : (ℓ : Loc nD τ sig) → Buf (Elt F) ℓ) (c : Dev nD)

/-! ### @main around the kernel -/

theorem hostOps0_fresh : (hostOps0 : List (HloOp τ sig (Elt F))).Forall fun op => op.fresh = ∅ := rfl
theorem hostOps1_fresh : (hostOps1 : List (HloOp τ sig (Elt F))).Forall fun op => op.fresh = ∅ := ⟨rfl, rfl⟩

theorem hmain : Pipeline.HMainK (Ix := Unit) (Name := ℕ) (U := UR sig nD τ) (Lvl := ℕ) cfgs 0 (defs₀ (F := F)) 𝒱₀ m (main (F := F))
    (fun c b => V₀ m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; rfl) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  obtain rfl := List.mem_singleton.1 hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.1 hops
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.1 hops
  simp only [hostOps1, List.mem_cons, List.mem_nil_iff, or_false] at hop
  rcases hop with rfl | rfl
  all_goals
    intro w
    fin_cases w <;> simp only [StableHlo.unary_writes, Finset.mem_singleton] <;> exact StableHlo.devRef_ne_of_ne (by decide)

/-! ### The invariant's ends -/

theorem share_eq (w : Fin (cfg0 (F := F)).W) : (dats m 0 c).share w = fullShare := by
  unfold Dat.share; split <;> rfl

theorem hin : (Pipeline.ΦA spec0 c : sProp 𝕄) ⊢ (dats m 0 c).Φ 0 := by
  show _ ⊢ Φ m c 0
  unfold Pipeline.ΦA Φ stBufs
  rw [scopedRest0_eq]
  iintro ⟨⟨⟨%x0, H0⟩, ⟨%x1, H1⟩, ⟨%x2, H2⟩, ⟨%x3, H3⟩, ⟨%x4, H4⟩, ⟨%x5, H5⟩⟩, Hr⟩
  iexists x0, (⟨x1, x2, x3, x4⟩ : St F), x5
  isplitr; · (ipureintro; exact fun h => absurd rfl h)
  isplitl [H0]; · iexact H0
  isplitl [H1 H2 H3 H4]
  · isplitl [H1]; · iexact H1
    isplitl [H2]; · iexact H2
    isplitl [H3]; · iexact H3
    iexact H4
  isplitl [H5]; · iexact H5
  iexact Hr

theorem hout : (dats m 0 c).Φ (Fin.last (cfg0 (F := F)).N) ⊢ (Pipeline.ΦA spec0 c : sProp 𝕄) := by
  show Φ m c _ ⊢ _
  unfold Pipeline.ΦA Φ stBufs
  rw [scopedRest0_eq]
  iintro ⟨%x0, %g, %P, -, H0, ⟨H1, H2, H3, H4⟩, H5, Hr⟩
  isplitr [Hr]; swap; · iexact Hr
  isplitl [H0]; · iexists x0; iexact H0
  isplitl [H1]; · iexists g.m; iexact H1
  isplitl [H2]; · iexists g.s; iexact H2
  isplitl [H3]; · iexists g.tv; iexact H3
  isplitl [H4]; · iexists g.ti; iexact H4
  iexists P; iexact H5

/-! ### The result arrays -/

/-- The last point. -/
abbrev tEnd : Fin grid0.N := ⟨122, by rw [N_0]; decide⟩

/-- The two results as the kernel leaves them. -/
def resV : S32x8.Idx → Elt F .f32 := outV (grid0.coords tEnd) (yAt m c tEnd) (stateAt m c 122)
def resI : S32x8.Idx → Elt F .i32 := outI (grid0.coords tEnd) (yAt m c tEnd) (stateAt m c 122)

theorem eq_tEnd (t : Fin grid0.N) (h : t.val % 123 = 122) : t = tEnd := by
  have := lt_of_lt_of_eq t.isLt N_0
  exact Fin.ext (by show t.val = 122; omega)

/-- Reading the block of result 2 is reading the whole array. -/
theorem read_2 (G : (((cfg0 (F := F)).win 2).blk tEnd).view.ty.Contents (Elt F)) :
    (((cfg0 (F := F)).win 2).blk tEnd).view.read (Elt F) G = fun j => (show S32x8.Idx → Elt F .f32 from G) ((win0_2).xinj (grid0.coords tEnd) j) := by
  funext j
  rw [View.read_apply]
  refine congrArg G ?_
  funext a; apply Fin.ext
  match a with
  | ⟨0, _⟩ => show 0 * 32 + 1 * (j (0 : Fin 2)).val = (j (0 : Fin 2)).val; omega
  | ⟨1, _⟩ => show 0 * 8 + 1 * (j (1 : Fin 2)).val = (j (1 : Fin 2)).val; omega

theorem flushed_2 (t : Fin (cfg0 (F := F)).N) (hf : ((cfg0 (F := F)).win 2).flush t = true) :
    (dats m 0 c).flushed 2 t = (((cfg0 (F := F)).win 2).blk t).view.read (Elt F) (resV m c) := by
  obtain rfl := eq_tEnd t ((flush0_2 t).1 hf)
  exact (congrArg ((win0_2).cut (grid0.coords tEnd)) (after_2 m c tEnd)).trans (read_2 (F := F) (resV m c)).symm

theorem cover_2 (i : S32x8.Idx) : ∃ t : Fin (cfg0 (F := F)).N, ((cfg0 (F := F)).win 2).flush t = true ∧ i ∈ (((cfg0 (F := F)).win 2).blk t).view.set := by
  refine ⟨tEnd, (flush0_2 _).2 rfl, ?_⟩
  have h : (((cfg0 (F := F)).win 2).blk tEnd).view.set = ((win0_2).rect tEnd).set := View.set_slice_whole main_v1_0 _
  rw [h]
  refine Rect.mem_set_unit.2 fun a => ?_
  match a with
  | ⟨0, _⟩ => exact ⟨Nat.zero_le _, (i 0).isLt⟩
  | ⟨1, _⟩ => exact ⟨Nat.zero_le _, (i 1).isLt⟩

/-- Reading the block of result 3 is reading the whole array. -/
theorem read_3 (G : (((cfg0 (F := F)).win 3).blk tEnd).view.ty.Contents (Elt F)) :
    (((cfg0 (F := F)).win 3).blk tEnd).view.read (Elt F) G = fun j => (show S32x8.Idx → Elt F .i32 from G) ((win0_3).xinj (grid0.coords tEnd) j) := by
  funext j
  rw [View.read_apply]
  refine congrArg G ?_
  funext a; apply Fin.ext
  match a with
  | ⟨0, _⟩ => show 0 * 32 + 1 * (j (0 : Fin 2)).val = (j (0 : Fin 2)).val; omega
  | ⟨1, _⟩ => show 0 * 8 + 1 * (j (1 : Fin 2)).val = (j (1 : Fin 2)).val; omega

theorem flushed_3 (t : Fin (cfg0 (F := F)).N) (hf : ((cfg0 (F := F)).win 3).flush t = true) :
    (dats m 0 c).flushed 3 t = (((cfg0 (F := F)).win 3).blk t).view.read (Elt F) (resI m c) := by
  obtain rfl := eq_tEnd t ((flush0_3 t).1 hf)
  exact (congrArg ((win0_3).cut (grid0.coords tEnd)) (after_3 m c tEnd)).trans (read_3 (F := F) (resI m c)).symm

theorem cover_3 (i : S32x8.Idx) : ∃ t : Fin (cfg0 (F := F)).N, ((cfg0 (F := F)).win 3).flush t = true ∧ i ∈ (((cfg0 (F := F)).win 3).blk t).view.set := by
  refine ⟨tEnd, (flush0_3 _).2 rfl, ?_⟩
  have h : (((cfg0 (F := F)).win 3).blk tEnd).view.set = ((win0_3).rect tEnd).set := View.set_slice_whole main_v1_1 _
  rw [h]
  refine Rect.mem_set_unit.2 fun a => ?_
  match a with
  | ⟨0, _⟩ => exact ⟨Nat.zero_le _, (i 0).isLt⟩
  | ⟨1, _⟩ => exact ⟨Nat.zero_le _, (i 1).isLt⟩

theorem arr_2 : (dats m 0 c).arrAt 2 (cfg0 (F := F)).N = resV m c :=
  Dat.arrAt_eq_of_cover (dats m 0 c) 2 (resV m c) (flushed_2 m c) cover_2
theorem arr_3 : (dats m 0 c).arrAt 3 (cfg0 (F := F)).N = resI m c :=
  Dat.arrAt_eq_of_cover (dats m 0 c) 3 (resI m c) (flushed_3 m c) cover_3

/-! ### The run -/

/-- The logits are as launched when the kernel starts. -/
theorem V₀_arg0 : V₀ m c (Proc.devRef .tc main_arg0) = m ((c : Thread nD τ).loc main_arg0) :=
  StableHlo.after_of_forall_not_mem _ _ (by
    intro op hop
    obtain rfl := List.mem_singleton.1 hop
    exact fun h => absurd (Finset.mem_singleton.1 h) (StableHlo.devRef_ne_of_ne (by decide)))

theorem V₀_arg1 : V₀ m c (Proc.devRef .tc main_arg1) = m ((c : Thread nD τ).loc main_arg1) :=
  StableHlo.after_of_forall_not_mem _ _ (by
    intro op hop
    obtain rfl := List.mem_singleton.1 hop
    exact fun h => absurd (Finset.mem_singleton.1 h) (StableHlo.devRef_ne_of_ne (by decide)))

/-- What every final state holds. -/
def Post (r : PUnit × MemSt nD τ sig (Elt F)) : Prop :=
  (∀ c : Dev nD,
    r.2.mem ((c : Thread nD τ).loc main_v2) = extractStridedSlice S32x5 ![0, 0] (resV m c) slices_S32x8_S32x5_0_0
    ∧ r.2.mem ((c : Thread nD τ).loc main_v3) = extractStridedSlice S32x5 ![0, 0] (resI m c) slices_S32x8_S32x5_0_0
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The buffers after the last host lines. -/
abbrev VEnd : Valuation τ sig (Elt F) :=
  Pipeline.withArrays spec0 c (V₀ m c) fun w => (dats m 0 c).arrAt w (cfg0 (F := F)).N

theorem VEnd_arr (w : Fin 4) : VEnd m c (Proc.devRef .tc (Pipeline.arrRef spec0 w)) = (dats m 0 c).arrAt w (cfg0 (F := F)).N :=
  Pipeline.withArrays_arr spec0 winFacts0.arr_inj c _ _ w

theorem VEnd_arg1 : VEnd m c (Proc.devRef .tc main_arg1) = m ((c : Thread nD τ).loc main_arg1) :=
  (Pipeline.withArrays_of_ne spec0 c _ _ main_arg1 (by decide)).trans (V₀_arg1 m c)

theorem end_v2 : StableHlo.after (hostOps1 (F := F)) (VEnd m c) (Proc.devRef .tc main_v2)
    = extractStridedSlice S32x5 ![0, 0] (resV m c) slices_S32x8_S32x5_0_0 := by
  simp only [hostOps1, StableHlo.after_cons, StableHlo.after_nil]
  rw [StableHlo.unary_result_ne, StableHlo.unary_result]
  · exact congrArg (fun x => extractStridedSlice S32x5 ![0, 0] x slices_S32x8_S32x5_0_0) ((VEnd_arr m c 2).trans (arr_2 m c))
  all_goals decide

theorem end_v3 : StableHlo.after (hostOps1 (F := F)) (VEnd m c) (Proc.devRef .tc main_v3)
    = extractStridedSlice S32x5 ![0, 0] (resI m c) slices_S32x8_S32x5_0_0 := by
  simp only [hostOps1, StableHlo.after_cons, StableHlo.after_nil]
  rw [StableHlo.unary_result, StableHlo.unary_result_ne]
  · exact congrArg (fun x => extractStridedSlice S32x5 ![0, 0] x slices_S32x8_S32x5_0_0) ((VEnd_arr m c 3).trans (arr_3 m c))
  all_goals decide

theorem end_arg1 : StableHlo.after (hostOps1 (F := F)) (VEnd m c) (Proc.devRef .tc main_arg1) = m ((c : Thread nD τ).loc main_arg1) := by
  simp only [hostOps1, StableHlo.after_cons, StableHlo.after_nil]
  rw [StableHlo.unary_result_ne, StableHlo.unary_result_ne]
  · exact VEnd_arg1 m c
  all_goals decide

/-- The run leaves the two results and both arguments as `Post` states. -/
theorem run (g : Dev nD → PrngReg) (hX : ∀ c, Sorted (ids m c)) :
    θ_run defs (onTc (τ := τ) (main (F := F))) ⟨m, fun _ => 0, g⟩ (Post m) :=
  Pipeline.θ_run_frame_around_track cfgs (dats m) 0 launch0 defs₀ 𝒱₀ m g main
    (fun c => body_obligation m c (hX c)) (fun c w => share_eq m c w) (fun _ _ => rfl)
    (fun c => V₀ m c) [hostOps1] tail_sub tail_fresh tail_keeps (hmain m) (fun _ _ => rfl) (hin m) (hout m) (Post m)
    (fun r ⟨h, hs⟩ => ⟨fun c =>
      ⟨((h c).2 main_v2 (by decide : main_v2 ∈ Pipeline.restRefs sig spec0)).trans (end_v2 m c),
       ((h c).2 main_v3 (by decide : main_v3 ∈ Pipeline.restRefs sig spec0)).trans (end_v3 m c),
       ((h c).1 1).trans (((dats m 0 c).arrAt_in 1 rfl _).trans (V₀_arg0 m c)),
       ((h c).2 main_arg1 (by decide : main_arg1 ∈ Pipeline.restRefs sig spec0)).trans (end_arg1 m c)⟩, hs⟩)

end Cert.Proof.KI

end
-- ==== Proof.KI.Ids.lean ====
/-
  The precondition gives the kernel sorted ids: ids in the vocabulary are words below 1000000, and the host sorts each row
  of them before the kernel.
-/
module

public import proofs.«01_k».proof.Defs
public import proofs.«01_k».proof.Proof.SortIds
public import proofs.«01_k».proof.Proof.KI.Data
public import proofs.«01_k».proof.Proof.Gen.Pre_ids_in_vocab

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (c : Dev nD)

/-- The ids the kernel is given are the launched ones sorted. -/
theorem ids_eq : ids m c = Host.sort S32x200 1 comparator_i32_d1 (m ((c : Thread nD τ).loc main_arg1)) := by
  unfold ids V₀
  simp only [hostOps0, StableHlo.after_cons, StableHlo.after_nil]
  exact StableHlo.unary_result _ _ _ _ _ _

/-- Ids in the vocabulary, sorted, are what the kernel asks of its ids. -/
theorem sorted_ids (h : ∀ j : S32x200.Idx, (m ((c : Thread nD τ).loc main_arg1) j : BitVec 32).toNat < 1000000) : Sorted (ids m c) := by
  constructor
  · intro j
    rw [ids_eq, eq_ix2 j]
    exact (congrArg BitVec.toNat (SortIds.sort_apply (m ((c : Thread nD τ).loc main_arg1)) (j 0) (j 1))).trans_lt (h _)
  · intro r p q hpq
    rw [ids_eq]
    exact SortIds.sort_mono (m ((c : Thread nD τ).loc main_arg1)) h r p q hpq

/-- The printed predicate, all ones, says that every id is a column. -/
theorem ids_lt (x : S32x1000000.Idx → Elt F .f32) (y : S32x200.Idx → BitVec 32)
    (h : Cert.Pre_ids_in_vocab.fn (F := F) x y = fun _ => 1#1) (j : S32x200.Idx) : (y j).toNat < 1000000 := by
  have andi_one (a b : BitVec 1) : IntOp.andi a b = 1#1 ↔ a = 1#1 ∧ b = 1#1 := by revert a b; decide
  have hj := congrFun h j
  simp only [Cert.Pre_ids_in_vocab.fn, constantI, broadcastInDim, cmpi, andi, andi_one] at hj
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at hj
  have := (y j).isLt
  obtain ⟨h1, h2⟩ := hj
  split at h1 <;> omega

end Cert.Proof.KI

end
-- ==== Proof.KI.Frame.lean ====
/-
  The frame: with ids in the vocabulary the program runs, and leaves its arguments and the semaphores as they were.
-/
module

public import proofs.«01_k».proof.Proof.KI.Run
public import proofs.«01_k».proof.Proof.KI.Ids

@[expose] public section

noncomputable section

namespace Cert.Proof.KI

open Idealize.ShloMosaic Idealize.ShloMosaic.TcCoe Idealize.SL.Sem

/-- The run from ids in the vocabulary: the arguments end unchanged and every semaphore reads zero. -/
theorem frame : Cert.quiescent_KernelIdeal := fun m g hpre =>
  (θ_run Cert.KernelIdeal.defs _ _).mono (fun _ h => ⟨fun c => (h.1 c).2.2, h.2⟩)
    (run (F := Ideal) m g fun c => sorted_ids m c (ids_lt _ _ (hpre c)))

end Cert.Proof.KI

end
-- ==== Proof.Ref.Terms.lean ====
/-
  The reference's two results in named pieces: the ids after jnp's wrap of negative ones, the gathered logits, their
  penalty, the scattered scores, the log-softmax and the five greatest.
-/
module

public import proofs.«01_k».proof.Proof.Gen.ReferenceIdeal.Run
public import Idealize.ShloMosaic.PureOps.Ideal

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo

/-- The ids, a negative one moved up by the vocabulary's size. -/
def wrapped (X : IVec S32x200 32) : IVec S32x200 32 :=
  select (cmpi .slt X (broadcastInDim S32x200 ![] bcast_S_S32x200 (constantI S_ 32 0#32)))
    (addi X (broadcastInDim S32x200 ![] bcast_S_S32x200 (constantI S_ 32 1000000#32))) X

/-- The wrapped ids with a last axis of one. -/
def starts (X : IVec S32x200 32) : IVec S32x200x1 32 := shapeCast _ (wrapped X) shapeCasts_S32x200_S32x200x1

/-- Which wrapped ids name a column. -/
def inside (X : IVec S32x200 32) : IVec S32x200 1 :=
  Host.reduce IntOp.andi
    (andi (cmpi .sge (starts X) (broadcastInDim S32x200x1 ![] bcast_S_S32x200x1 (constantI S_ 32 0#32)))
      (cmpi .sle (starts X) (broadcastInDim S32x200x1 ![0, 1, 2] bcast_S1x1x1_S32x200x1_0_1_2
        (broadcastInDim S1x1x1 ![2] bcast_S1_S1x1x1_2 (constantI S1 32 999999#32)))))
    (constantI S_ 1 1#1) reducesTo_S32x200x1_S32x200_d2 h_S_

/-- The logits at the ids. -/
def taken (L : FVec Ideal S32x1000000 .f32) (X : IVec S32x200 32) : FVec Ideal S32x200 .f32 :=
  select (inside X) (Host.gather gather_S32x1000000_S32x200x1_S32x200_n_1_0_0_1_2_11 L (starts X))
    (broadcastInDim S32x200 ![] bcast_S_S32x200 (constant S_ .f32 0x7FC00000#32))

/-- One where a score is below zero, zero elsewhere. -/
def below (g : FVec Ideal S32x200 .f32) : FVec Ideal S32x200 .f32 :=
  uitofp .f32 (cmpf .olt g (broadcastInDim S32x200 ![] bcast_S_S32x200 (constant S_ .f32 0x00000000#32)))

/-- The penalised scores. -/
def updates (g : FVec Ideal S32x200 .f32) : FVec Ideal S32x200 .f32 :=
  addf (mulf (mulf (below g) (broadcastInDim S32x200 ![] bcast_S_S32x200 (constant S_ .f32 0x3F99999A#32))) g)
    (mulf (Host.divf (subf (broadcastInDim S32x200 ![] bcast_S_S32x200 (constant S_ .f32 0x3F800000#32)) (below g))
      (broadcastInDim S32x200 ![] bcast_S_S32x200 (constant S_ .f32 0x3F99999A#32))) g)

/-- The row numbers as a column. -/
def rowCol : IVec S32x1 32 := broadcastInDim S32x1 ![0] bcast_S32_S32x1_0 (iotaInDim S32 32 0)

/-- The row numbers along each row. -/
def rowIds : IVec S32x200x1 32 :=
  broadcastInDim S32x200x1 ![0, 1] bcast_S32x200_S32x200x1_0_1 (broadcastInDim S32x200 ![0, 1] bcast_S32x1_S32x200_0_1
    (select (cmpi .slt rowCol (broadcastInDim S32x1 ![] bcast_S_S32x1 (constantI S_ 32 0#32)))
      (addi rowCol (broadcastInDim S32x1 ![] bcast_S_S32x1 (constantI S_ 32 32#32))) rowCol))

/-- The wrapped ids as the scatter's second index words. -/
def colIds (X : IVec S32x200 32) : IVec S32x200x1 32 := broadcastInDim S32x200x1 ![0, 1] bcast_S32x200_S32x200x1_0_1 (wrapped X)

/-- The scatter's index pairs. -/
def pairs (X : IVec S32x200 32) : IVec S32x200x2 32 :=
  concatenate S32x200x2 2 [⟨S32x200x1, rowIds⟩, ⟨S32x200x1, colIds X⟩] concatenates_S32x200x1_S32x200x1_S32x200x2_d2

/-- The logits with the penalised scores set at the ids. -/
def scores (L : FVec Ideal S32x1000000 .f32) (X : IVec S32x200 32) : FVec Ideal S32x1000000 .f32 :=
  Host.scatter scatter_S32x1000000_S32x200x2_S32x200_n_01_01_2 (fun _ b => b) L (pairs X) (updates (taken L X))

/-- The greatest of each row. -/
def tops (M : FVec Ideal S32x1000000 .f32) : FVec Ideal S32 .f32 :=
  maximumf (broadcastInDim S32 ![] bcast_S_S32 (constant S_ .f32 0xFF800000#32))
    (Host.reduce FloatOps.maximumf M (constant S_ .f32 0xFF800000#32) reducesTo_S32x1000000_S32_d1 h_S_)

/-- A row number's value along its row. -/
def along (u : FVec Ideal S32x1 .f32) : FVec Ideal S32x1000000 .f32 := broadcastInDim S32x1000000 ![0, 1] bcast_S32x1_S32x1000000_0_1 u

/-- A vector as a column. -/
def column (u : FVec Ideal S32 .f32) : FVec Ideal S32x1 .f32 := broadcastInDim S32x1 ![0] bcast_S32_S32x1_0 u

/-- The scores less their row's greatest. -/
def shifted (M : FVec Ideal S32x1000000 .f32) : FVec Ideal S32x1000000 .f32 := subf M (along (column (tops M)))

/-- The sums of each row's exponentials. -/
def sums (M : FVec Ideal S32x1000000 .f32) : FVec Ideal S32 .f32 :=
  Host.reduceAdd (Host.exp (shifted M)) (constant S_ .f32 0x00000000#32) reducesTo_S32x1000000_S32_d1 h_S_

/-- The log-softmax of each row. -/
def logSoft (M : FVec Ideal S32x1000000 .f32) : FVec Ideal S32x1000000 .f32 := subf (shifted M) (along (Host.log (column (sums M))))

/-- The five greatest of each row and their columns. -/
def best (M : FVec Ideal S32x1000000 .f32) : FVec Ideal S32x5 .f32 × IVec S32x5 32 :=
  Host.topK S32x5 1 (FloatOps.cmpfTotal .gt) M sliceFits_S32x1000000_S32x5

variable (m : (ℓ : Loc nD τ sig) → Buf (Elt Ideal) ℓ) (c : Dev nD)

/-- The reference's first result in these pieces. -/
theorem values_eq : res_main_values (F := Ideal) m c
    = (best (logSoft (scores (m ((c.tc : Thread nD τ).loc main_arg0)) (m ((c.tc : Thread nD τ).loc main_arg1))))).1 := rfl

/-- The reference's second result in these pieces. -/
theorem indices_eq : res_main_indices (F := Ideal) m c
    = (best (logSoft (scores (m ((c.tc : Thread nD τ).loc main_arg0)) (m ((c.tc : Thread nD τ).loc main_arg1))))).2 := rfl

end Cert.Proof.Ref

end
-- ==== Proof.Ref.Penalty.lean ====
/-
  The penalty on one real score: the reference's blend of the two products, with its divisor the constant 1.2 of the single
  format, is the kernel's choice between two products, its second factor named as that constant's reciprocal.
-/
module

public import proofs.«01_k».proof.Proof.KI.Tile
public import Idealize.ShloMosaic.PureOps.Ideal.Laws
public import Idealize.ShloMosaic.Lib.IdealHost

@[expose] public section

noncomputable section

namespace Cert.Proof.Ref

open Cert.KernelIdeal
open Idealize.ShloMosaic

/-- The single format's 1.2. -/
def up : ℝ := 5033165 / 4194304

theorem up_pos : 0 < up := by unfold up; positivity

theorem up_eq : Ideal.ofBits .f32 0x3F99999A#32 = (up : EReal) := by
  unfold up
  simp [Ideal.ofBits, Ideal.ieee, -EReal.coe_mul]; norm_num

theorem down_eq : (Named.named κ "pen_down" (φ := .f32) 0x3F555555#32 : Ideal .f32) = ((up⁻¹ : ℝ) : EReal) := by
  refine (IdealRules.named_const.ideal_named_scalar κ "pen_down" 0x3F555555#32 ((4194304 / 5033165 : ℝ) : EReal) rfl).trans ?_
  unfold up
  rw [inv_div]

/-- The kernel's penalty on a real score. -/
theorem pen_real (x : ℝ) : KI.pen (F := Ideal) (x : EReal) = ((if x < 0 then x * up else x * up⁻¹ : ℝ) : EReal) := by
  have h0 : Ideal.ofBits .f32 0x00000000#32 = ((0 : ℝ) : EReal) := by simp [Ideal.ofBits, Ideal.ieee]
  show Scalar.select (BitVec.ofBool (decide ((x : EReal) < Ideal.ofBits .f32 0x00000000#32))) ((x : EReal) * Ideal.ofBits .f32 0x3F99999A#32)
    ((x : EReal) * (Named.named κ "pen_down" (φ := .f32) 0x3F555555#32 : Ideal .f32)) = _
  rw [h0, up_eq, down_eq, ← EReal.coe_mul, ← EReal.coe_mul]
  by_cases h : x < 0
  · have h' : ((x : EReal) < ((0 : ℝ) : EReal)) := EReal.coe_lt_coe_iff.2 h
    rw [if_pos h, decide_eq_true h']; rfl
  · have h' : ¬ ((x : EReal) < ((0 : ℝ) : EReal)) := fun hh => h (EReal.coe_lt_coe_iff.1 hh)
    rw [if_neg h, decide_eq_false h']; rfl

/-- The reference's penalty on one score. -/
def blend (x : EReal) : EReal :=
  (((BitVec.ofBool (decide (x < Ideal.ofBits .f32 0x00000000#32))).toNat : ℝ) : EReal) * Ideal.ofBits .f32 0x3F99999A#32 * x
    + Ideal.div (Ideal.ofBits .f32 0x3F800000#32 - (((BitVec.ofBool (decide (x < Ideal.ofBits .f32 0x00000000#32))).toNat : ℝ) : EReal))
        (Ideal.ofBits .f32 0x3F99999A#32) * x

/-- On a real score the reference's penalty is the kernel's. -/
theorem blend_real (x : ℝ) : blend (x : EReal) = KI.pen (F := Ideal) (x : EReal) := by
  have h0 : Ideal.ofBits .f32 0x00000000#32 = ((0 : ℝ) : EReal) := by simp [Ideal.ofBits, Ideal.ieee]
  have h1 : Ideal.ofBits .f32 0x3F800000#32 = ((1 : ℝ) : EReal) := by rw [Ideal.ofBits_one_f32]; rfl
  have hu : ¬ ((up : EReal) = 0) := fun e => up_pos.ne' (EReal.coe_eq_zero.1 e)
  rw [pen_real]
  unfold blend
  rw [h0, h1, up_eq]
  have hd (b : ℝ) : Ideal.div (((1 : ℝ) : EReal) - (b : EReal)) (up : EReal) = (((1 - b) * up⁻¹ : ℝ) : EReal) := by
    unfold Ideal.div
    rw [if_neg hu, ← EReal.coe_sub, ← EReal.coe_inv, ← EReal.coe_mul]
  rw [hd, ← EReal.coe_mul, ← EReal.coe_mul, ← EReal.coe_mul, ← EReal.coe_add]
  refine congrArg Real.toEReal ?_
  by_cases h : x < 0
  · have h' : ((x : EReal) < ((0 : ℝ) : EReal)) := EReal.coe_lt_coe_iff.2 h
    rw [if_pos h, decide_eq_true h']
    simp
    ring
  · have h' : ¬ ((x : EReal) < ((0 : ℝ) : EReal)) := fun hh => h (EReal.coe_lt_coe_iff.1 hh)
    rw [if_neg h, decide_eq_false h']
    simp
    ring

end Cert.Proof.Ref

end
-- ==== Proof.Top.lean ====
module

public import Idealize.ShloMosaic.PureOps.Ideal

/-! The first entries of a finite set of columns in the order "larger value first, then smaller column":
    the list is unique, and it can be found by merging the lists of two parts. -/

@[expose] public section

namespace Cert.Proof.Top

variable {α : Type} [LinearOrder α] (s : ℕ → α)

/-- Column `a` comes before column `b`: its value is larger, or the values are equal and it is the smaller column. -/
def Bf (a b : ℕ) : Prop := s b < s a ∨ (s a = s b ∧ a < b)

variable {s}

theorem Bf.trans {a b c : ℕ} (h : Bf s a b) (h' : Bf s b c) : Bf s a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem Bf.irrefl {a : ℕ} : ¬ Bf s a a := by
  rintro (h | ⟨-, h⟩)
  · exact lt_irrefl _ h
  · exact lt_irrefl _ h

theorem Bf.asymm {a b : ℕ} (h : Bf s a b) : ¬ Bf s b a := fun h' => Bf.irrefl (h.trans h')

theorem Bf.total {a b : ℕ} (h : a ≠ b) : Bf s a b ∨ Bf s b a := by
  rcases lt_trichotomy (s a) (s b) with k | k | k
  · exact .inr (.inl k)
  · rcases Nat.lt_or_gt_of_ne h with l | l
    · exact .inl (.inr ⟨k, l⟩)
    · exact .inr (.inr ⟨k.symm, l⟩)
  · exact .inl (.inl k)

variable (s)

/-- `l` lists the first `l.length` columns of `S`, in order. -/
def TopList : Finset ℕ → List ℕ → Prop
  | _, [] => True
  | S, w :: l => w ∈ S ∧ (∀ x ∈ S, x ≠ w → Bf s w x) ∧ TopList (S.erase w) l

/-- `T` holds the first columns of `S`, at least five of them unless it is all of `S`. -/
def TopSet (S T : Finset ℕ) : Prop :=
  T ⊆ S ∧ ∀ x ∈ S, x ∉ T → 5 ≤ T.card ∧ ∀ y ∈ T, Bf s y x

variable {s}

/-- The list is unique. -/
theorem TopList.unique : ∀ {l l' : List ℕ} {S : Finset ℕ}, TopList s S l → TopList s S l' → l.length = l'.length → l = l'
  | [], [], _, _, _, _ => rfl
  | [], _ :: _, _, _, _, h => by simp at h
  | _ :: _, [], _, _, _, h => by simp at h
  | w :: l, w' :: l', S, h, h', e => by
    have hw : w = w' := by
      by_contra hne
      exact (h.2.1 w' h'.1 (Ne.symm hne)).asymm (h'.2.1 w h.1 hne)
    subst hw
    rw [TopList.unique h.2.2 h'.2.2 (by simpa using e)]

theorem TopList.mem : ∀ {l : List ℕ} {S : Finset ℕ}, TopList s S l → ∀ x ∈ l, x ∈ S
  | [], _, _, _, hx => by simp at hx
  | w :: l, S, h, x, hx => by
    rcases List.mem_cons.1 hx with rfl | hx
    · exact h.1
    · exact Finset.mem_of_mem_erase (h.2.2.mem x hx)

theorem TopList.nodup : ∀ {l : List ℕ} {S : Finset ℕ}, TopList s S l → l.Nodup
  | [], _, _ => List.nodup_nil
  | w :: l, S, h => List.nodup_cons.2 ⟨fun hw => Finset.notMem_erase w S (h.2.2.mem w hw), h.2.2.nodup⟩

/-- A column left out comes after every column of the list. -/
theorem TopList.before : ∀ {l : List ℕ} {S : Finset ℕ}, TopList s S l → ∀ x ∈ S, x ∉ l → ∀ y ∈ l, Bf s y x
  | [], _, _, _, _, _, _, hy => by simp at hy
  | w :: l, S, h, x, hx, hn, y, hy => by
    have hxw : x ≠ w := fun e => hn (e ▸ List.mem_cons_self)
    rcases List.mem_cons.1 hy with rfl | hy
    · exact h.2.1 x hx hxw
    · exact h.2.2.before x (Finset.mem_erase.2 ⟨hxw, hx⟩) (fun k => hn (List.mem_cons_of_mem _ k)) y hy

theorem TopList.topSet {l : List ℕ} {S : Finset ℕ} (h : TopList s S l) (h5 : l.length = 5) : TopSet s S l.toFinset := by
  refine ⟨fun x hx => h.mem x (List.mem_toFinset.1 hx), fun x hx hn => ⟨?_, fun y hy => ?_⟩⟩
  · rw [List.toFinset_card_of_nodup h.nodup, h5]
  · exact h.before x hx (fun k => hn (List.mem_toFinset.2 k)) y (List.mem_toFinset.1 hy)

theorem TopSet.empty : TopSet s ∅ ∅ := ⟨Finset.Subset.refl _, fun x hx => absurd hx (Finset.notMem_empty x)⟩

/-- Widening a list's set by columns that come after every one of its columns. -/
theorem TopList.widen : ∀ {l : List ℕ} {S S' : Finset ℕ}, TopList s S l → S ⊆ S' →
    (∀ x ∈ S', x ∉ S → ∀ y ∈ l, Bf s y x) → TopList s S' l
  | [], _, _, _, _, _ => trivial
  | w :: l, S, S', h, hs, hb => by
    refine ⟨hs h.1, fun x hx hne => ?_, h.2.2.widen (Finset.erase_subset_erase w hs) fun x hx hn y hy => ?_⟩
    · by_cases k : x ∈ S
      · exact h.2.1 x k hne
      · exact hb x hx k w List.mem_cons_self
    · have hx' := Finset.mem_erase.1 hx
      exact hb x hx'.2 (fun k => hn (Finset.mem_erase.2 ⟨hx'.1, k⟩)) y (List.mem_cons_of_mem _ hy)

/-- A column of one part that the part's own first columns leave out comes after the merged list. -/
theorem merge_before {A T : Finset ℕ} {S : Finset ℕ} {l : List ℕ} (hA : TopSet s A T) (hTS : T ⊆ S)
    (h : TopList s S l) (h5 : l.length = 5) {x : ℕ} (hx : x ∈ A) (hxT : x ∉ T) {y : ℕ} (hy : y ∈ l) : Bf s y x := by
  obtain ⟨hc, hb⟩ := hA.2 x hx hxT
  by_contra hn
  have hz : ∀ z ∈ T, Bf s z y := fun z hz => by
    by_cases e : x = y
    · exact e ▸ hb z hz
    · rcases Bf.total (s := s) e with k | k
      · exact (hb z hz).trans k
      · exact absurd k hn
  have hsub : T ⊆ l.toFinset.erase y := fun z hz' => by
    refine Finset.mem_erase.2 ⟨fun e => Bf.irrefl (e ▸ hz z hz'), List.mem_toFinset.2 ?_⟩
    by_contra hzl
    exact (h.before z (hTS hz') hzl y hy).asymm (hz z hz')
  have h1 := Finset.card_le_card hsub
  rw [Finset.card_erase_of_mem (List.mem_toFinset.2 hy), List.toFinset_card_of_nodup h.nodup, h5] at h1
  omega

/-- The first five of two parts are the first five of the parts' first columns together. -/
theorem merge {A B T U : Finset ℕ} {l : List ℕ} (hA : TopSet s A T) (hB : TopSet s B U)
    (h : TopList s (T ∪ U) l) (h5 : l.length = 5) : TopList s (A ∪ B) l := by
  refine h.widen (Finset.union_subset_union hA.1 hB.1) fun x hx hn y hy => ?_
  have hT : x ∉ T := fun k => hn (Finset.mem_union_left _ k)
  have hU : x ∉ U := fun k => hn (Finset.mem_union_right _ k)
  rcases Finset.mem_union.1 hx with k | k
  · exact merge_before hA Finset.subset_union_left h h5 k hT hy
  · exact merge_before hB Finset.subset_union_right h h5 k hU hy

/-- The list from its pairwise description. -/
theorem topList_of : ∀ {l : List ℕ} {S : Finset ℕ}, l.Pairwise (Bf s) → (∀ x ∈ l, x ∈ S) →
    (∀ x ∈ S, x ∉ l → ∀ y ∈ l, Bf s y x) → TopList s S l
  | [], _, _, _, _ => trivial
  | w :: l, S, hp, hm, hb => by
    have hp' := List.pairwise_cons.1 hp
    refine ⟨hm w List.mem_cons_self, fun x hx hne => ?_, topList_of hp'.2 (fun x hx => Finset.mem_erase.2
      ⟨fun e => Bf.irrefl (e ▸ hp'.1 x hx), hm x (List.mem_cons_of_mem _ hx)⟩) fun x hx hn y hy => ?_⟩
    · by_cases k : x ∈ l
      · exact hp'.1 x k
      · exact hb x hx (by simp [hne, k]) w List.mem_cons_self
    · have hx' := Finset.mem_erase.1 hx
      exact hb x hx'.2 (by simp [hx'.1, hn]) y (List.mem_cons_of_mem _ hy)

theorem TopList.congr {s' : ℕ → α} : ∀ {l : List ℕ} {S : Finset ℕ}, (∀ x ∈ S, s x = s' x) → TopList s S l → TopList s' S l
  | [], _, _, _ => trivial
  | w :: l, S, e, h => by
    refine ⟨h.1, fun x hx hne => ?_, h.2.2.congr fun x hx => e x (Finset.mem_of_mem_erase hx)⟩
    have := h.2.1 x hx hne
    unfold Bf at this ⊢
    rwa [e x hx, e w h.1] at this

/-- Five columns picked one after the other, each with its value. `v j` and `w j` are what a round of selection finds
    in `val j` (the entries' values, `⊥` where an entry is out), and the round takes the picked column out. -/
structure Step [OrderBot α] {n : ℕ} (id : Fin n → ℕ) (val : Fin n → α) (v : α) (w : ℕ) (val' : Fin n → α) : Prop where
  ub : ∀ k, val k ≤ v
  att : (∃ k, val k ≠ ⊥) → ∃ k, val k = v
  wlb : ∀ k, val k = v → w ≤ id k
  watt : (∃ k, val k = v) → ∃ k, val k = v ∧ id k = w
  next : ∀ k, val' k = if id k = w then ⊥ else val k

/-- The columns still in. -/
def live [OrderBot α] {n : ℕ} (id : Fin n → ℕ) (val : Fin n → α) : Finset ℕ :=
  (Finset.univ.filter fun k => val k ≠ ⊥).image id

theorem mem_live [OrderBot α] {n : ℕ} {id : Fin n → ℕ} {val : Fin n → α} {x : ℕ} :
    x ∈ live id val ↔ ∃ k, val k ≠ ⊥ ∧ id k = x := by
  simp [live]

section Steps

variable [OrderBot α] {n : ℕ} {id : Fin n → ℕ} {val val' : Fin n → α} {v : α} {w : ℕ}

theorem Step.pick (h : Step id val v w val') (hs : ∀ k, val k ≠ ⊥ → val k = s (id k)) (hne : (live id val).Nonempty) :
    w ∈ live id val ∧ v = s w ∧ (∀ x ∈ live id val, x ≠ w → Bf s w x) ∧ live id val' = (live id val).erase w := by
  obtain ⟨x0, hx0⟩ := hne
  obtain ⟨k0, hk0, -⟩ := mem_live.1 hx0
  have hv : v ≠ ⊥ := fun e => hk0 (le_bot_iff.1 (e ▸ h.ub k0))
  obtain ⟨k, hk, hkw⟩ := h.watt (h.att ⟨k0, hk0⟩)
  have hk' : val k ≠ ⊥ := hk ▸ hv
  have hvw : v = s w := by rw [← hk, hs k hk', hkw]
  refine ⟨mem_live.2 ⟨k, hk', hkw⟩, hvw, fun x hx hne => ?_, ?_⟩
  · obtain ⟨q, hq, rfl⟩ := mem_live.1 hx
    have h1 := h.ub q
    rw [hs q hq, hvw] at h1
    rcases lt_or_eq_of_le h1 with h2 | h2
    · exact .inl h2
    · have := h.wlb q (by rw [hs q hq, h2, hvw])
      exact .inr ⟨h2.symm, by omega⟩
  · ext x
    rw [Finset.mem_erase, mem_live, mem_live]
    constructor
    · rintro ⟨q, hq, rfl⟩
      rw [h.next] at hq
      by_cases e : id q = w
      · rw [if_pos e] at hq; exact absurd rfl hq
      · rw [if_neg e] at hq; exact ⟨e, q, hq, rfl⟩
    · rintro ⟨e, q, hq, rfl⟩
      exact ⟨q, by rw [h.next, if_neg e]; exact hq, rfl⟩

theorem Step.keep (h : Step id val v w val') (hs : ∀ k, val k ≠ ⊥ → val k = s (id k)) :
    ∀ k, val' k ≠ ⊥ → val' k = s (id k) := fun k hk => by
  rw [h.next] at hk ⊢
  by_cases e : id k = w
  · rw [if_pos e] at hk; exact absurd rfl hk
  · rw [if_neg e] at hk ⊢; exact hs k hk

/-- Five rounds of selection list the first five of the entries that are in. -/
theorem five {v : Fin 5 → α} {w : Fin 5 → ℕ} {val : ℕ → Fin n → α}
    (h : ∀ j : Fin 5, Step id (val j.val) (v j) (w j) (val (j.val + 1)))
    (hs : ∀ k, val 0 k ≠ ⊥ → val 0 k = s (id k)) (hc : 5 ≤ (live id (val 0)).card) :
    TopList s (live id (val 0)) [w 0, w 1, w 2, w 3, w 4] ∧ ∀ j, v j = s (w j) := by
  have key : ∀ j : ℕ, j ≤ 5 → (∀ k, val j k ≠ ⊥ → val j k = s (id k)) ∧ 5 ≤ (live id (val j)).card + j := by
    intro j
    induction j with
    | zero => exact fun _ => ⟨hs, hc⟩
    | succ j ih =>
      intro hj
      obtain ⟨h1, h2⟩ := ih (by omega)
      have hst : Step id (val j) (v ⟨j, by omega⟩) (w ⟨j, by omega⟩) (val (j + 1)) := h ⟨j, by omega⟩
      have hpos : 0 < (live id (val j)).card := by omega
      have hp := hst.pick h1 (Finset.card_pos.1 hpos)
      refine ⟨hst.keep h1, ?_⟩
      rw [hp.2.2.2, Finset.card_erase_of_mem hp.1]
      omega
  have pk : ∀ (j : ℕ) (hj : j < 5), w ⟨j, hj⟩ ∈ live id (val j) ∧ v ⟨j, hj⟩ = s (w ⟨j, hj⟩) ∧
      (∀ x ∈ live id (val j), x ≠ w ⟨j, hj⟩ → Bf s (w ⟨j, hj⟩) x) ∧
      live id (val (j + 1)) = (live id (val j)).erase (w ⟨j, hj⟩) := fun j hj => by
    have hst : Step id (val j) (v ⟨j, hj⟩) (w ⟨j, hj⟩) (val (j + 1)) := h ⟨j, hj⟩
    have hk := key j (by omega)
    have hpos : 0 < (live id (val j)).card := by omega
    exact hst.pick hk.1 (Finset.card_pos.1 hpos)
  have p0 := pk 0 (by decide)
  have p1 := pk 1 (by decide)
  have p2 := pk 2 (by decide)
  have p3 := pk 3 (by decide)
  have p4 := pk 4 (by decide)
  refine ⟨⟨p0.1, p0.2.2.1, ?_⟩, fun j => (pk j.val j.isLt).2.1⟩
  refine Eq.mp (congrArg (fun S => TopList s S _) p0.2.2.2) ⟨p1.1, p1.2.2.1, ?_⟩
  refine Eq.mp (congrArg (fun S => TopList s S _) p1.2.2.2) ⟨p2.1, p2.2.2.1, ?_⟩
  refine Eq.mp (congrArg (fun S => TopList s S _) p2.2.2.2) ⟨p3.1, p3.2.2.1, ?_⟩
  exact Eq.mp (congrArg (fun S => TopList s S _) p3.2.2.2) ⟨p4.1, p4.2.2.1, trivial⟩

end Steps

end Cert.Proof.Top

end
-- ==== Proof.KI.Select.lean ====
/-
  One round of selection on a table of 32 rows, read a row at a time on the extended reals: the row's maximum, the least id
  among the entries that attain it, and the table with that id's entries taken out.
-/
module

public import proofs.«01_k».proof.Proof.KI.Point
public import proofs.«01_k».proof.Proof.Top
public import Idealize.ShloMosaic.Lib.ValueLayoutCasts
public import Idealize.ShloMosaic.PureOps.Ideal.Laws

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Top

/-- A table of 32 rows. -/
abbrev Tb (n : ℕ) : Shape := ⟨2, ![32, n]⟩

variable {n : ℕ} (h : (Tb n).Reduces [1] S32) (hb : S32x1.Broadcasts (Tb n))

theorem bits_ninf : (FloatOps.ofBits .f32 0xFF800000#32 : Ideal .f32) = (⊥ : EReal) := by
  show Ideal.ofBits .f32 0xFF800000#32 = ⊥
  simp [Ideal.ofBits, Ideal.ieee]

theorem lift_row (r : S32.Idx) (k : Fin n) : h.lift r k = ix2 (r 0) k := by
  funext a
  match a with
  | ⟨0, _⟩ => rfl
  | ⟨1, _⟩ => rfl

theorem col_apply {α : Type} (x : S32.Idx → α) (r : Fin 32) (u : Fin 1) :
    shapeCast S32x1 x shapeCasts_S32_S32x1 (ix2 r u) = x (ix1 r) := shapeCast_a_a1_apply x _ r u

theorem spread_apply {α : Type} (x : S32x1.Idx → α) (r : Fin 32) (k : Fin n) :
    broadcastTo (Tb n) x hb (ix2 r k) = x (ix2 r 0) := by
  refine broadcastTo_apply x hb (ix2 r k) (ix2 r 0) fun a => ?_
  match a with
  | ⟨0, _⟩ => rfl
  | ⟨1, _⟩ => rfl

/-- Each row's maximum, as a column. -/
def rowMax (x : FVec Ideal (Tb n) .f32) : FVec Ideal S32x1 .f32 :=
  shapeCast S32x1 (multiReduction .maximumf [1] S32 x 0xFF800000#32 h (.inl rfl) rfl) shapeCasts_S32_S32x1

/-- Each row's least id among the entries attaining the maximum, as a column. -/
def rowArg (id : IVec (Tb n) 32) (x : FVec Ideal (Tb n) .f32) : IVec S32x1 32 :=
  shapeCast S32x1 (multiReductionI .minsi [1] S32
    (select (cmpf .oeq x (broadcastTo (Tb n) (rowMax h x) hb)) id (broadcast (Tb n) 2147483647#32))
    2147483647#32 h rfl) shapeCasts_S32_S32x1

/-- The table with the selected ids' entries at minus infinity. -/
def rowOut (id : IVec (Tb n) 32) (x : FVec Ideal (Tb n) .f32) : FVec Ideal (Tb n) .f32 :=
  select (cmpi .eq id (broadcastTo (Tb n) (rowArg h hb id x) hb)) (broadcast (Tb n) (Scalar.ofBits .f32 0xFF800000#32)) x

theorem rowMax_apply (x : FVec Ideal (Tb n) .f32) (r : Fin 32) (u : Fin 1) :
    rowMax h x (ix2 r u) = (Finset.univ : Finset (Fin n)).fold max (⊥ : EReal) (fun k => x (ix2 r k)) := by
  unfold rowMax
  refine (col_apply _ r u).trans ?_
  refine (Ideal.multiReduction_maximumf_single x _ h (.inl rfl) rfl (ix1 r)).trans ?_
  refine (congrArg (fun b : EReal => Finset.fold max b (x ∘ h.lift (ix1 r)) Finset.univ) bits_ninf).trans ?_
  refine congrArg (Finset.fold max (⊥ : EReal) · Finset.univ) (funext fun k => ?_)
  exact congrArg x (lift_row h (ix1 r) k)

theorem minsi_toInt (a b : BitVec 32) : (IntOp.minsi a b).toInt = min a.toInt b.toInt := by
  unfold IntOp.minsi
  by_cases e : a.slt b = true
  · have := BitVec.slt_iff_toInt_lt.1 e
    rw [if_pos e]; omega
  · have : ¬ a.toInt < b.toInt := fun k => e (BitVec.slt_iff_toInt_lt.2 k)
    rw [if_neg e]; omega

theorem rowArg_apply (id : IVec (Tb n) 32) (x : FVec Ideal (Tb n) .f32) (r : Fin 32) (u : Fin 1) :
    (rowArg h hb id x (ix2 r u)).toInt = (Finset.univ : Finset (Fin n)).fold min (2147483647 : ℤ)
      (fun k => if x (ix2 r k) = rowMax h x (ix2 r 0) then (id (ix2 r k)).toInt else 2147483647) := by
  unfold rowArg
  refine (congrArg BitVec.toInt ((col_apply _ r u).trans ((multiReductionI_eq_fold .minsi _ _ h rfl (ix1 r)).trans
    (h.fold_filter_drop_single IntOp.minsi _ _ (ix1 r))))).trans ?_
  refine (Finset.fold_hom (op := IntOp.minsi) (op' := min) (m := BitVec.toInt) minsi_toInt).symm.trans ?_
  refine congrArg (Finset.fold min (2147483647 : ℤ) · Finset.univ) (funext fun k => ?_)
  refine (congrArg (fun j => (select (cmpf .oeq x (broadcastTo (Tb n) (rowMax h x) hb)) id
    (broadcast (Tb n) 2147483647#32) j).toInt) (lift_row h (ix1 r) k)).trans ?_
  refine (congrArg (fun z => (Scalar.select (Ideal.cmp .oeq (x (ix2 r k)) z) (id (ix2 r k)) 2147483647#32).toInt)
    (spread_apply hb (rowMax h x) r k)).trans ?_
  show BitVec.toInt (Scalar.select (BitVec.ofBool (decide ((x (ix2 r k) : EReal) = rowMax h x (ix2 r 0)))) (id (ix2 r k)) 2147483647#32) = _
  by_cases e : x (ix2 r k) = rowMax h x (ix2 r 0)
  · rw [if_pos e, decide_eq_true e]; rfl
  · rw [if_neg e, decide_eq_false e]; rfl

theorem toInt_eq_of_lt {w : BitVec 32} (hw : w.toNat < 2147483648) : w.toInt = w.toNat := by
  rw [BitVec.toInt_eq_toNat_cond]; simp; omega

theorem rowOut_apply (id : IVec (Tb n) 32) (x : FVec Ideal (Tb n) .f32) (r : Fin 32) (k : Fin n) :
    rowOut h hb id x (ix2 r k)
      = if (id (ix2 r k)).toNat = (rowArg h hb id x (ix2 r 0)).toNat then (⊥ : EReal) else x (ix2 r k) := by
  unfold rowOut
  refine (congrArg (fun z => Scalar.select (IntOp.cmpi .eq (id (ix2 r k)) z) _ (x (ix2 r k)))
    (spread_apply hb (rowArg h hb id x) r k)).trans ?_
  show Scalar.select (BitVec.ofBool (id (ix2 r k) == rowArg h hb id x (ix2 r 0))) (Scalar.ofBits .f32 0xFF800000#32 : Ideal .f32) _ = _
  by_cases e : id (ix2 r k) = rowArg h hb id x (ix2 r 0)
  · rw [if_pos (congrArg _ e), beq_iff_eq.2 e]
    exact bits_ninf
  · rw [if_neg (fun k => e (BitVec.eq_of_toNat_eq k)), beq_eq_false_iff_ne.2 e]
    rfl

/-- One round on row `r` is a step of selection. -/
theorem step_row (id : IVec (Tb n) 32) (x : FVec Ideal (Tb n) .f32) (r : Fin 32)
    (hid : ∀ k, (id (ix2 r k)).toNat < 2147483648) :
    Step (α := EReal) (fun k => (id (ix2 r k)).toNat) (fun k => x (ix2 r k)) (rowMax h x (ix2 r 0))
      (rowArg h hb id x (ix2 r 0)).toNat (fun k => rowOut h hb id x (ix2 r k)) := by
  have hm := rowMax_apply h x r 0
  have ha := rowArg_apply h hb id x r 0
  have hge : ∀ k, x (ix2 r k) = rowMax h x (ix2 r 0) →
      (rowArg h hb id x (ix2 r 0)).toInt ≤ (id (ix2 r k)).toInt := fun k hk => by
    rw [ha, Finset.fold_min_le]
    exact .inr ⟨k, Finset.mem_univ k, by rw [if_pos hk]⟩
  have h0 : 0 ≤ (rowArg h hb id x (ix2 r 0)).toInt := by
    rw [ha, Finset.le_fold_min]
    refine ⟨by decide, fun k _ => ?_⟩
    by_cases e : x (ix2 r k) = rowMax h x (ix2 r 0)
    · rw [if_pos e, toInt_eq_of_lt (hid k)]; omega
    · rw [if_neg e]; decide
  have hn : (rowArg h hb id x (ix2 r 0)).toInt = (rowArg h hb id x (ix2 r 0)).toNat := by
    rw [BitVec.toInt_eq_toNat_cond] at h0 ⊢
    have := (rowArg h hb id x (ix2 r 0)).isLt
    split <;> rename_i c
    · rfl
    · rw [if_neg c] at h0; omega
  refine ⟨fun k => ?_, fun ⟨k, hk⟩ => ?_, fun k hk => ?_, fun ⟨k, hk⟩ => ?_, fun k => rowOut_apply h hb id x r k⟩
  · rw [hm, Finset.le_fold_max]
    exact .inr ⟨k, Finset.mem_univ k, le_refl _⟩
  · have hle : rowMax h x (ix2 r 0) ≤ rowMax h x (ix2 r 0) := le_refl _
    have hub : ∀ k, x (ix2 r k) ≤ rowMax h x (ix2 r 0) := fun k => by
      rw [hm, Finset.le_fold_max]
      exact .inr ⟨k, Finset.mem_univ k, le_refl _⟩
    conv at hle => rhs; rw [hm]
    rcases (Finset.le_fold_max _).1 hle with e | ⟨q, -, e⟩
    · exact absurd (le_bot_iff.1 ((hub k).trans e)) hk
    · exact ⟨q, le_antisymm (hub q) e⟩
  · have := hge k hk
    rw [hn, toInt_eq_of_lt (hid k)] at this
    omega
  · have hle : (rowArg h hb id x (ix2 r 0)).toInt ≤ (rowArg h hb id x (ix2 r 0)).toInt := le_refl _
    have hk1 := hge k hk
    have hk2 := toInt_eq_of_lt (hid k)
    have hk3 := hid k
    have base : 2147483647 ≤ (rowArg h hb id x (ix2 r 0)).toInt → (id (ix2 r k)).toNat = (rowArg h hb id x (ix2 r 0)).toNat := by
      intro hh; omega
    conv at hle => lhs; rw [ha]
    rcases Finset.fold_min_le _ |>.1 hle with e | ⟨q, -, e⟩
    · exact ⟨k, hk, base e⟩
    · by_cases hq : x (ix2 r q) = rowMax h x (ix2 r 0)
      · rw [if_pos hq] at e
        have := hge q hq
        have := toInt_eq_of_lt (hid q)
        exact ⟨q, hq, by show (id (ix2 r q)).toNat = _; omega⟩
      · rw [if_neg hq] at e
        exact ⟨k, hk, base e⟩

end Cert.Proof.KI

end
-- ==== Proof.KI.Best.lean ====
/-
  The kernel's five best of a block and of the five best so far, a row at a time on the extended reals: they are the first
  five columns, by value and then by column, of everything seen.
-/
module

public import proofs.«01_k».proof.Proof.KI.Select

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Top

section Rounds

variable {n : ℕ} (h : (Tb n).Reduces [1] S32) (hb : S32x1.Broadcasts (Tb n))

/-- The table after `j` rounds of selection. -/
def outs (id : IVec (Tb n) 32) (x : FVec Ideal (Tb n) .f32) : ℕ → FVec Ideal (Tb n) .f32
  | 0 => x
  | j + 1 => rowOut h hb id (outs id x j)

/-- Five columns side by side. -/
def cat5 {α : Type} (f : Fin 5 → S32x1.Idx → α) : S32x5.Idx → α :=
  concatenate S32x5 1 [⟨S32x1, f 0⟩, ⟨S32x1, f 1⟩, ⟨S32x1, f 2⟩, ⟨S32x1, f 3⟩, ⟨S32x1, f 4⟩]
    concatenates_S32x1_S32x1_S32x1_S32x1_S32x1_S32x5_d1

theorem cat5_apply {α : Type} (f : Fin 5 → S32x1.Idx → α) (r : Fin 32) (j : Fin 5) :
    cat5 f (ix2 r j) = f j (ix2 r 0) := by
  refine concatenate_ofFn_unit_apply (t := S32x5) (s₁ := S32x1) 1 f
    concatenates_S32x1_S32x1_S32x1_S32x1_S32x1_S32x5_d1 rfl rfl (ix2 r j) j rfl (ix2 r 0) fun b hb => ?_
  match b with
  | ⟨0, _⟩ => rfl
  | ⟨1, _⟩ => exact absurd rfl hb

/-- Two tables of five columns side by side. -/
def cat2 {α : Type} (a b : S32x5.Idx → α) : S32x10.Idx → α :=
  concatenate S32x10 1 [⟨S32x5, a⟩, ⟨S32x5, b⟩] concatenates_S32x5_S32x5_S32x10_d1

theorem cat2_left {α : Type} (a b : S32x5.Idx → α) (r : Fin 32) (j : Fin 5) :
    cat2 a b (ix2 r ⟨j.val, by omega⟩) = a (ix2 r j) := by
  refine concatenate_pair_apply_left (t := S32x10) 1 a b _ _ rfl (ix2 r j) fun c => ?_
  match c with
  | ⟨0, _⟩ => rfl
  | ⟨1, _⟩ => rfl

theorem cat2_right {α : Type} (a b : S32x5.Idx → α) (r : Fin 32) (j : Fin 5) :
    cat2 a b (ix2 r ⟨j.val + 5, by omega⟩) = b (ix2 r j) := by
  refine concatenate_pair_apply_right (t := S32x10) 1 a b _ _ rfl rfl (ix2 r j) (fun c hc => ?_) rfl
  match c with
  | ⟨0, _⟩ => rfl
  | ⟨1, _⟩ => exact absurd rfl hc

/-- The five rounds' values. -/
def vals (id : IVec (Tb n) 32) (x : FVec Ideal (Tb n) .f32) : FVec Ideal S32x5 .f32 :=
  cat5 fun j => rowMax h (outs h hb id x j.val)

/-- The five rounds' ids. -/
def args (id : IVec (Tb n) 32) (x : FVec Ideal (Tb n) .f32) : IVec S32x5 32 :=
  cat5 fun j => rowArg h hb id (outs h hb id x j.val)

/-- Row `r` of a table of five ids. -/
def cols5 (f : S32x5.Idx → BitVec 32) (r : Fin 32) : List ℕ :=
  [(f (ix2 r 0)).toNat, (f (ix2 r 1)).toNat, (f (ix2 r 2)).toNat, (f (ix2 r 3)).toNat, (f (ix2 r 4)).toNat]

theorem mem_cols5 {f : S32x5.Idx → BitVec 32} {r : Fin 32} {x : ℕ} : x ∈ cols5 f r ↔ ∃ j : Fin 5, (f (ix2 r j)).toNat = x := by
  constructor
  · intro hx
    simp only [cols5, List.mem_cons, List.not_mem_nil, or_false] at hx
    rcases hx with e | e | e | e | e
    · exact ⟨0, e.symm⟩
    · exact ⟨1, e.symm⟩
    · exact ⟨2, e.symm⟩
    · exact ⟨3, e.symm⟩
    · exact ⟨4, e.symm⟩
  · rintro ⟨j, rfl⟩
    simp only [cols5, List.mem_cons, List.not_mem_nil, or_false]
    fin_cases j <;> simp

/-- Row `r`'s columns that are in. -/
abbrev rowLive (id : IVec (Tb n) 32) (x : FVec Ideal (Tb n) .f32) (r : Fin 32) : Finset ℕ :=
  live (α := EReal) (fun k => (id (ix2 r k)).toNat) (fun k => x (ix2 r k))

/-- Row `r` holds values of `s`: an entry that is in holds the value at its id, and ids are not negative. -/
structure RowOf (s : ℕ → EReal) (id : IVec (Tb n) 32) (x : FVec Ideal (Tb n) .f32) (r : Fin 32) : Prop where
  val : ∀ k, x (ix2 r k) ≠ (⊥ : EReal) → x (ix2 r k) = s (id (ix2 r k)).toNat
  pos : ∀ k, (id (ix2 r k)).toNat < 2147483648

/-- Five rounds of selection list a row's first five. -/
theorem five_row {s : ℕ → EReal} {id : IVec (Tb n) 32} {x : FVec Ideal (Tb n) .f32} {r : Fin 32} (hx : RowOf s id x r)
    (hc : 5 ≤ (rowLive id x r).card) :
    TopList s (rowLive id x r) (cols5 (args h hb id x) r) ∧
      ∀ j : Fin 5, vals h hb id x (ix2 r j) = s (args h hb id x (ix2 r j)).toNat := by
  have hf := five (α := EReal) (s := s) (id := fun k => (id (ix2 r k)).toNat)
    (v := fun j => rowMax h (outs h hb id x j.val) (ix2 r 0))
    (w := fun j => (rowArg h hb id (outs h hb id x j.val) (ix2 r 0)).toNat)
    (val := fun j k => outs h hb id x j (ix2 r k))
    (fun j => step_row h hb id (outs h hb id x j.val) r hx.pos) hx.val hc
  have ea : ∀ j : Fin 5, args h hb id x (ix2 r j) = rowArg h hb id (outs h hb id x j.val) (ix2 r 0) :=
    fun j => cat5_apply _ r j
  refine ⟨?_, fun j => (cat5_apply _ r j).trans ((hf.2 j).trans (congrArg (fun z => s (BitVec.toNat z)) (ea j).symm))⟩
  unfold cols5
  rw [ea 0, ea 1, ea 2, ea 3, ea 4]
  exact hf.1

end Rounds

theorem topK_val (v12 : IVec S32x8192 32) (v17 : Vec Ideal S32x8192 .f32) (v100 : Vec Ideal S32x5 .f32) (v102 : Vec Ideal S32x5 .i32) :
    (topK (F := Ideal) v12 v17 v100 v102).1
      = vals (n := 10) reduces_S32x10_S32 broadcasts_S32x1_S32x10
          (cat2 v102 (args (n := 8192) reduces_S32x8192_S32 broadcasts_S32x1_S32x8192 v12 v17))
          (cat2 v100 (vals (n := 8192) reduces_S32x8192_S32 broadcasts_S32x1_S32x8192 v12 v17)) := rfl

theorem topK_arg (v12 : IVec S32x8192 32) (v17 : Vec Ideal S32x8192 .f32) (v100 : Vec Ideal S32x5 .f32) (v102 : Vec Ideal S32x5 .i32) :
    (topK (F := Ideal) v12 v17 v100 v102).2.1
      = args (n := 10) reduces_S32x10_S32 broadcasts_S32x1_S32x10
          (cat2 v102 (args (n := 8192) reduces_S32x8192_S32 broadcasts_S32x1_S32x8192 v12 v17))
          (cat2 v100 (vals (n := 8192) reduces_S32x8192_S32 broadcasts_S32x1_S32x8192 v12 v17)) := rfl

theorem cat2_cases {P : Fin 10 → Prop} (hl : ∀ j : Fin 5, P ⟨j.val, by omega⟩) (hr : ∀ j : Fin 5, P ⟨j.val + 5, by omega⟩) :
    ∀ k, P k := fun k => by
  by_cases e : k.val < 5
  · exact hl ⟨k.val, e⟩
  · have := hr ⟨k.val - 5, by omega⟩
    have ek : (⟨(⟨k.val - 5, by omega⟩ : Fin 5).val + 5, by simp; omega⟩ : Fin 10) = k := Fin.ext (by simp; omega)
    rwa [ek] at this

theorem live_cat2 (a b : S32x5.Idx → BitVec 32) (x y : FVec Ideal S32x5 .f32) (r : Fin 32) :
    rowLive (n := 10) (cat2 a b) (cat2 x y) r = rowLive (n := 5) a x r ∪ rowLive (n := 5) b y r := by
  ext c
  rw [Finset.mem_union]
  unfold rowLive
  rw [mem_live, mem_live, mem_live]
  constructor
  · rintro ⟨k, h1, h2⟩
    revert h1 h2
    revert k
    refine cat2_cases (fun j h1 h2 => .inl ⟨j, ?_, ?_⟩) (fun j h1 h2 => .inr ⟨j, ?_, ?_⟩)
    · rwa [cat2_left] at h1
    · rwa [cat2_left] at h2
    · rwa [cat2_right] at h1
    · rwa [cat2_right] at h2
  · rintro (⟨j, h1, h2⟩ | ⟨j, h1, h2⟩)
    · exact ⟨⟨j.val, by omega⟩, by rwa [cat2_left], by rwa [cat2_left]⟩
    · exact ⟨⟨j.val + 5, by omega⟩, by rwa [cat2_right], by rwa [cat2_right]⟩

theorem rowOf_cat2 {s : ℕ → EReal} {a b : S32x5.Idx → BitVec 32} {x y : FVec Ideal S32x5 .f32} {r : Fin 32}
    (h1 : RowOf (n := 5) s a x r) (h2 : RowOf (n := 5) s b y r) : RowOf (n := 10) s (cat2 a b) (cat2 x y) r := by
  constructor
  · refine cat2_cases (fun j => ?_) (fun j => ?_)
    · rw [cat2_left, cat2_left]; exact h1.val j
    · rw [cat2_right, cat2_right]; exact h2.val j
  · refine cat2_cases (fun j => ?_) (fun j => ?_)
    · rw [cat2_left]; exact h1.pos j
    · rw [cat2_right]; exact h2.pos j

/-- A table of five that lists a row's first five has exactly those in. -/
theorem live_five {s : ℕ → EReal} {a : S32x5.Idx → BitVec 32} {x : FVec Ideal S32x5 .f32} {r : Fin 32} {S : Finset ℕ}
    (hl : TopList s S (cols5 a r)) (hv : ∀ j : Fin 5, x (ix2 r j) = s (a (ix2 r j)).toNat)
    (hS : ∀ c ∈ S, s c ≠ ⊥ ∧ c < 2147483648) :
    rowLive (n := 5) a x r = (cols5 a r).toFinset ∧ RowOf (n := 5) s a x r := by
  have hm : ∀ j : Fin 5, (a (ix2 r j)).toNat ∈ S := fun j => hl.mem _ (mem_cols5.2 ⟨j, rfl⟩)
  refine ⟨?_, fun j _ => hv j, fun j => (hS _ (hm j)).2⟩
  ext c
  rw [List.mem_toFinset, mem_cols5]
  unfold rowLive
  rw [mem_live]
  constructor
  · rintro ⟨j, -, e⟩; exact ⟨j, e⟩
  · rintro ⟨j, e⟩
    exact ⟨j, by rw [hv j]; exact (hS _ (hm j)).1, e⟩

/-- The kernel's merge: from a row's first five so far and a block, the row's first five of both. -/
theorem topK_row {s : ℕ → EReal} {A : Finset ℕ} {v12 : IVec S32x8192 32} {v17 : Vec Ideal S32x8192 .f32}
    {v100 : Vec Ideal S32x5 .f32} {v102 : Vec Ideal S32x5 .i32} {r : Fin 32}
    (hA : TopSet s A (rowLive (n := 5) v102 v100 r)) (h5 : RowOf (n := 5) s v102 v100 r)
    (hB : RowOf (n := 8192) s v12 v17 r) (hc : 5 ≤ (rowLive (n := 8192) v12 v17 r).card) :
    TopList s (A ∪ rowLive (n := 8192) v12 v17 r) (cols5 (topK (F := Ideal) v12 v17 v100 v102).2.1 r) ∧
      ∀ j : Fin 5, (topK (F := Ideal) v12 v17 v100 v102).1 (ix2 r j) = s ((topK (F := Ideal) v12 v17 v100 v102).2.1 (ix2 r j)).toNat := by
  rw [topK_val, topK_arg]
  obtain ⟨l1, w1⟩ := five_row reduces_S32x8192_S32 broadcasts_S32x1_S32x8192 hB hc
  have hS : ∀ c ∈ rowLive (n := 8192) v12 v17 r, s c ≠ ⊥ ∧ c < 2147483648 := fun c hcc => by
    obtain ⟨k, hk, rfl⟩ := mem_live.1 hcc
    exact ⟨hB.val k hk ▸ hk, hB.pos k⟩
  obtain ⟨e1, o1⟩ := live_five l1 w1 hS
  have ts := l1.topSet rfl
  rw [← e1] at ts
  have hcard : 5 ≤ (rowLive (n := 10) (cat2 v102 (args (n := 8192) reduces_S32x8192_S32 broadcasts_S32x1_S32x8192 v12 v17))
          (cat2 v100 (vals (n := 8192) reduces_S32x8192_S32 broadcasts_S32x1_S32x8192 v12 v17)) r).card := by
    rw [live_cat2]
    refine le_trans ?_ (Finset.card_le_card Finset.subset_union_right)
    rw [e1, List.toFinset_card_of_nodup l1.nodup]
    exact le_refl 5
  obtain ⟨l2, w2⟩ := five_row reduces_S32x10_S32 broadcasts_S32x1_S32x10 (rowOf_cat2 h5 o1) hcard
  refine ⟨merge hA ts ?_ rfl, w2⟩
  rw [← live_cat2]
  exact l2

end Cert.Proof.KI

end
-- ==== Proof.Soft.lean ====
module

public import Idealize.ShloMosaic.PureOps.Ideal

/-! The running maximum and the running sum of exponentials of a sequence of extended reals, where minus infinity stands
    for an entry left out. -/

@[expose] public section

noncomputable section

namespace Cert.Proof.Soft

open Idealize.ShloMosaic

/-- `e^(a − M)`, zero at an entry left out. -/
def ex (a : EReal) (M : ℝ) : ℝ := if a = ⊥ then 0 else Real.exp (a.toReal - M)

theorem exp_sub {a : EReal} (ha : a ≠ ⊤) (M : ℝ) : Ideal.exp (a - (M : EReal)) = (ex a M : EReal) := by
  unfold ex
  by_cases hb : a = ⊥
  · rw [if_pos hb, hb, EReal.bot_sub]; rfl
  · rw [if_neg hb]
    conv => lhs; rw [← EReal.coe_toReal ha hb, ← EReal.coe_sub]
    rfl

theorem ex_mul (a : EReal) (M M' : ℝ) : ex a M * Real.exp (M - M') = ex a M' := by
  unfold ex
  by_cases hb : a = ⊥
  · rw [if_pos hb, if_pos hb, zero_mul]
  · rw [if_neg hb, if_neg hb, ← Real.exp_add]
    congr 1
    ring

theorem ex_nonneg (a : EReal) (M : ℝ) : 0 ≤ ex a M := by
  unfold ex
  split
  · exact le_refl _
  · exact (Real.exp_pos _).le

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of the first `n` entries. -/
def mx (s : ℕ → EReal) (n : ℕ) : EReal := (Finset.range n).sup s

/-- The sum of exponentials of the first `n` entries, from their maximum. -/
def sm (s : ℕ → EReal) (n : ℕ) : ℝ := ∑ v ∈ Finset.range n, ex (s v) (mx s n).toReal

/-- No entry is plus infinity, and the first is in. -/
structure Fin0 (s : ℕ → EReal) : Prop where
  top : ∀ v, s v ≠ ⊤
  bot : s 0 ≠ ⊥

variable {s : ℕ → EReal} (hs : Fin0 s)

include hs

theorem mx_real {n : ℕ} (hn : 0 < n) : ((mx s n).toReal : EReal) = mx s n := by
  refine EReal.coe_toReal ?_ ?_
  · refine ne_of_lt ((Finset.sup_lt_iff bot_lt_top).2 fun v _ => lt_top_iff_ne_top.2 (hs.top v))
  · intro e
    have : s 0 ≤ mx s n := Finset.le_sup (f := s) (Finset.mem_range.2 hn)
    rw [e] at this
    exact hs.bot (le_bot_iff.1 this)

omit hs in
theorem mx_add (n w : ℕ) : mx s (n + w) = max (mx s n) ((Finset.univ : Finset (Fin w)).fold max ⊥ fun k => s (n + k.val)) := by
  have e : ((Finset.univ : Finset (Fin w)).fold max ⊥ fun k => s (n + k.val)) = (Finset.univ : Finset (Fin w)).sup fun k => s (n + k.val) := rfl
  rw [e]
  apply le_antisymm
  · refine Finset.sup_le fun v hv => ?_
    have hv' := Finset.mem_range.1 hv
    by_cases h : v < n
    · exact le_max_of_le_left (Finset.le_sup (f := s) (Finset.mem_range.2 h))
    · have hk : v - n < w := by omega
      have := Finset.le_sup (f := fun k : Fin w => s (n + k.val)) (Finset.mem_univ (⟨v - n, hk⟩ : Fin w))
      have ev : n + (v - n) = v := by omega
      simp only [ev] at this
      exact le_max_of_le_right this
  · refine max_le (Finset.sup_mono (Finset.range_subset_range.2 (by omega))) (Finset.sup_le fun k _ => ?_)
    exact Finset.le_sup (f := s) (Finset.mem_range.2 (by have := k.isLt; omega))

/-- One more block: the old sum rescaled to the new maximum, and the block's own. -/
theorem sm_add (n w : ℕ) (hw : 0 < w) :
    (sm s n : EReal) * Ideal.exp (mx s n - mx s (n + w)) + ∑ k : Fin w, Ideal.exp (s (n + k.val) - mx s (n + w)) = (sm s (n + w) : EReal) := by
  have hM := mx_real hs (n := n + w) (by omega)
  have h1 : ∑ k : Fin w, Ideal.exp (s (n + k.val) - mx s (n + w)) = ((∑ k ∈ Finset.range w, ex (s (n + k)) (mx s (n + w)).toReal : ℝ) : EReal) := by
    rw [coe_sum, Finset.sum_range]
    refine Finset.sum_congr rfl fun k _ => ?_
    rw [← hM]
    exact exp_sub (hs.top _) _
  have h2 : (sm s n : EReal) * Ideal.exp (mx s n - mx s (n + w)) = ((∑ v ∈ Finset.range n, ex (s v) (mx s (n + w)).toReal : ℝ) : EReal) := by
    rcases Nat.eq_zero_or_pos n with rfl | hn
    · simp [sm]
    · rw [← hM, ← mx_real hs hn, ← EReal.coe_sub]
      show (sm s n : EReal) * ((Real.exp _ : ℝ) : EReal) = _
      rw [← EReal.coe_mul]
      unfold sm
      rw [Finset.sum_mul]
      refine congrArg _ (Finset.sum_congr rfl fun v _ => ?_)
      exact ex_mul _ _ _
  rw [h1, h2, ← EReal.coe_add]
  unfold sm
  rw [Finset.sum_range_add]

/-- Entries left out at the end change neither. -/
theorem mx_tail {n n' : ℕ} (h : n ≤ n') (ho : ∀ v, n ≤ v → s v = ⊥) : mx s n' = mx s n := by
  apply le_antisymm
  · refine Finset.sup_le fun v hv => ?_
    by_cases hvn : v < n
    · exact Finset.le_sup (f := s) (Finset.mem_range.2 hvn)
    · rw [ho v (by omega)]; exact bot_le
  · exact Finset.sup_mono (Finset.range_subset_range.2 h)

theorem sm_tail {n n' : ℕ} (h : n ≤ n') (ho : ∀ v, n ≤ v → s v = ⊥) : sm s n' = sm s n := by
  unfold sm
  rw [mx_tail hs h ho]
  refine (Finset.sum_subset (Finset.range_subset_range.2 h) fun v _ hv => ?_).symm
  have : n ≤ v := by simpa using hv
  rw [ho v this]
  exact if_pos rfl

theorem sm_pos {n : ℕ} (hn : 0 < n) : 0 < sm s n := by
  unfold sm
  refine Finset.sum_pos' (fun v _ => ex_nonneg _ _) ⟨0, Finset.mem_range.2 hn, ?_⟩
  unfold ex
  rw [if_neg hs.bot]
  exact Real.exp_pos _

/-- The whole sum at once. -/
theorem sum_fin {n : ℕ} (hn : 0 < n) : ∑ k : Fin n, Ideal.exp (s k.val - mx s n) = (sm s n : EReal) := by
  have h := sm_add hs 0 n hn
  have e0 : (sm s 0 : EReal) = 0 := by simp [sm]
  rw [e0, zero_mul, zero_add, Nat.zero_add] at h
  simpa only [Nat.zero_add] using h

omit hs in
theorem fold_fin (n : ℕ) : ((Finset.univ : Finset (Fin n)).fold max ⊥ fun k => s k.val) = mx s n := by
  have h := mx_add (s := s) 0 n
  have e0 : mx s 0 = ⊥ := by simp [mx]
  rw [e0, Nat.zero_add, max_eq_right bot_le] at h
  simpa only [Nat.zero_add] using h.symm

end Cert.Proof.Soft

end

end
-- ==== Proof.KI.Value.lean ====
/-
  The kernel's state before each block, on the extended reals: the running maximum, the running sum of exponentials and the
  first five columns of what has been seen of each row's penalised scores.
-/
module

public import proofs.«01_k».proof.Proof.KI.Best
public import proofs.«01_k».proof.Proof.KI.Ids
public import proofs.«01_k».proof.Proof.KI.Run
public import proofs.«01_k».proof.Proof.Soft

@[expose] public section

noncomputable section

namespace Cert.Proof.KI

open Cert.KernelIdeal Cert.KernelIdeal.Gen
open Idealize.ShloMosaic Idealize.ShloMosaic.ValueIdx Cert.Proof.Words
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Top Cert.Proof.Soft

/-! ## The scores -/

open Classical in
/-- Row `r`'s score of column `v`: its logit, penalised if `v` is one of the row's tokens; minus infinity past the end. -/
def sc (L : FVec Ideal S32x1000000 .f32) (X : S32x200.Idx → BitVec 32) (r : Fin 32) (v : ℕ) : EReal :=
  if h : v < 1000000 then
    if ∃ q : Fin 200, (X (ix2 r q)).toNat = v then pen (F := Ideal) (L (ix2 r ⟨v, h⟩)) else L (ix2 r ⟨v, h⟩)
  else ⊥

variable (m : (ℓ : Loc nD τ sig) → Buf (Elt Ideal) ℓ) (c : Dev nD)

/-- The logits of core `c`. -/
abbrev lg : FVec Ideal S32x1000000 .f32 := m ((c : Thread nD τ).loc main_arg0)

theorem blk0_apply (t : Fin grid0.N) (r : Fin 32) (k : Fin 8192) (h : t.val * 8192 + k.val < 1000000) :
    blk0 m c t (ix2 r k) = lg m c (ix2 r ⟨t.val * 8192 + k.val, h⟩) := by
  have hm := moved_of_lt t (ix2 r k) h
  unfold blk0 blkAt Pipeline.Window.fill
  rw [dif_pos hm, View.read_apply]
  have ht : t.val < 123 := lt_of_lt_of_eq t.isLt N_0
  have hw : (BitVec.ofNat 32 (grid0.coords t 0).val).toNat = t.val := by
    rw [coords_val]; exact toNat_small _ (by omega)
  refine (congrFun (V₀_arg0 m c) _).trans (congrArg (lg m c) ?_)
  funext a
  apply Fin.ext
  match a with
  | ⟨0, _⟩ => show 0 * 32 + 1 * r.val = r.val; omega
  | ⟨1, _⟩ =>
    show (BitVec.ofNat 32 (grid0.coords t 0).val).toNat * 8192 + 1 * k.val = t.val * 8192 + k.val
    rw [hw]; omega

/-- The masked block of point `t` holds the scores of its columns. -/
theorem pay12_sc (t : Fin grid0.N) (r : Fin 32) (k : Fin 8192) :
    k0_pay12 (F := Ideal) (grid0.coords t) (yAt m c t) (ix2 r k) = sc (lg m c) (ids m c) r (t.val * 8192 + k.val) := by
  classical
  rw [pay12_apply]
  have ec : (grid0.coords t 0).val = t.val := coords_val t
  unfold sc
  by_cases h : t.val * 8192 + k.val < 1000000
  · rw [dif_pos h]
    refine (if_pos (by rw [ec]; exact h)).trans ?_
    unfold yAt rowsPen
    dsimp only
    rw [blk0_apply m c t r k h]
    refine if_congr ?_ rfl rfl
    exact ⟨fun hh => hh.2, fun hh => ⟨r.isLt, hh⟩⟩
  · rw [dif_neg h]
    refine (if_neg (by rw [ec]; exact h)).trans bits_ninf

/-! ## One block -/

theorem rowSum_apply {n : ℕ} (h : (Tb n).Reduces [1] S32) (x : FVec Ideal (Tb n) .f32) (r : Fin 32) (u : Fin 1) :
    shapeCast S32x1 (multiReduction .add [1] S32 x 0x00000000#32 h (.inl rfl) rfl) shapeCasts_S32_S32x1 (ix2 r u)
      = ∑ k : Fin n, (x (ix2 r k) : EReal) := by
  refine (col_apply _ r u).trans ?_
  refine (Ideal.multiReduction_add_single x _ h (.inl rfl) rfl (ix1 r)).trans ?_
  exact Finset.sum_congr rfl fun k _ => congrArg x (lift_row h (ix1 r) k)

theorem pay13_row (i : grid0.Coords) (y : FVec Ideal S32x8192 .f32) (v : FVec Ideal S32x1 .f32) (r : Fin 32) :
    k0_pay13 (F := Ideal) i y v (ix2 r 0)
      = max (v (ix2 r 0) : EReal) ((Finset.univ : Finset (Fin 8192)).fold max ⊥ fun k => k0_pay12 (F := Ideal) i y (ix2 r k)) :=
  congrArg (max (v (ix2 r 0) : EReal)) (rowMax_apply (n := 8192) reduces_S32x8192_S32 (k0_pay12 (F := Ideal) i y) r 0)

theorem pay14_row (i : grid0.Coords) (y : FVec Ideal S32x8192 .f32) (v w : FVec Ideal S32x1 .f32) (r : Fin 32) :
    k0_pay14 (F := Ideal) i y v w (ix2 r 0)
      = (w (ix2 r 0) : EReal) * Ideal.exp ((v (ix2 r 0) : EReal) - k0_pay13 (F := Ideal) i y v (ix2 r 0))
        + ∑ k : Fin 8192, Ideal.exp ((k0_pay12 (F := Ideal) i y (ix2 r k) : EReal) - k0_pay13 (F := Ideal) i y v (ix2 r 0)) := by
  refine congrArg (fun z : EReal => (w (ix2 r 0) : EReal) * Ideal.exp ((v (ix2 r 0) : EReal) - k0_pay13 (F := Ideal) i y v (ix2 r 0)) + z)
    ((rowSum_apply (n := 8192) reduces_S32x8192_S32 _ r 0).trans (Finset.sum_congr rfl fun k _ => ?_))
  exact congrArg (fun z : EReal => Ideal.exp ((k0_pay12 (F := Ideal) i y (ix2 r k) : EReal) - z))
    (spread_apply (n := 8192) broadcasts_S32x1_S32x8192 (k0_pay13 (F := Ideal) i y v) r k)

/-- The columns below `n` that are in. -/
def ins (s : ℕ → EReal) (n : ℕ) : Finset ℕ := by
  classical
  exact (Finset.range n).filter fun v => s v ≠ ⊥

theorem mem_ins {s : ℕ → EReal} {n v : ℕ} : v ∈ ins s n ↔ v < n ∧ s v ≠ ⊥ := by
  unfold ins
  rw [Finset.mem_filter, Finset.mem_range]

/-- Row `r` of the state after the first `n` columns of the scores `s`. -/
structure Inv (s : ℕ → EReal) (r : Fin 32) (n : ℕ) (g : St Ideal) : Prop where
  max : g.m (ix2 r (0 : Fin 128)) = mx s n
  sum : g.s (ix2 r (0 : Fin 128)) = (sm s n : EReal)
  top : TopSet s (ins s n) (rowLive (n := 5) (head5 g.ti) (head5 g.tv) r)
  row : RowOf (n := 5) s (head5 g.ti) (head5 g.tv) r

/-- Point `i`'s block holds the scores of the 8192 columns from `n`. -/
structure Blk (s : ℕ → EReal) (r : Fin 32) (n : ℕ) (i : grid0.Coords) (y : FVec Ideal S32x8192 .f32) : Prop where
  val : ∀ k : Fin 8192, k0_pay12 (F := Ideal) i y (ix2 r k) = s (n + k.val)
  col : ∀ k : Fin 8192, (k0_pay11 i (ix2 r k)).toNat = n + k.val
  small : n + 8192 ≤ 2147483648
  some : ∀ k < 5, s (n + k) ≠ ⊥

section Step

variable {s : ℕ → EReal} (hs : Fin0 s) {r : Fin 32} {n : ℕ} {g : St Ideal} (hg : Inv s r n g)
  {i : grid0.Coords} {y : FVec Ideal S32x8192 .f32} (hb : Blk s r n i y)

include hb in
theorem Blk.rowOf : RowOf (n := 8192) s (k0_pay11 i) (k0_pay12 (F := Ideal) i y) r :=
  ⟨fun k _ => by rw [hb.val, hb.col], fun k => by rw [hb.col]; have := hb.small; have := k.isLt; omega⟩

include hb in
theorem Blk.live_eq : ins s n ∪ rowLive (n := 8192) (k0_pay11 i) (k0_pay12 (F := Ideal) i y) r = ins s (n + 8192) := by
  ext v
  rw [Finset.mem_union, mem_ins, mem_ins]
  unfold rowLive
  rw [mem_live]
  constructor
  · rintro (⟨h1, h2⟩ | ⟨k, h1, h2⟩)
    · exact ⟨by omega, h2⟩
    · have e : n + k.val = v := (hb.col k).symm.trans h2
      have := k.isLt
      refine ⟨by omega, ?_⟩
      rw [← e, ← hb.val k]; exact h1
  · rintro ⟨h1, h2⟩
    by_cases h : v < n
    · exact .inl ⟨h, h2⟩
    · refine .inr ⟨⟨v - n, by omega⟩, ?_, ?_⟩
      · have e : n + (v - n) = v := by omega
        show k0_pay12 (F := Ideal) i y (ix2 r _) ≠ _
        rw [hb.val]; simp only [e]; exact h2
      · show (k0_pay11 i (ix2 r _)).toNat = v
        rw [hb.col]; simp only; omega

include hb in
theorem Blk.card : 5 ≤ (rowLive (n := 8192) (k0_pay11 i) (k0_pay12 (F := Ideal) i y) r).card := by
  have hsub : (Finset.range 5).image (n + ·) ⊆ rowLive (n := 8192) (k0_pay11 i) (k0_pay12 (F := Ideal) i y) r := by
    intro v hv
    obtain ⟨k, hk, rfl⟩ := Finset.mem_image.1 hv
    have hk5 := Finset.mem_range.1 hk
    refine mem_live.2 ⟨⟨k, by omega⟩, ?_, hb.col _⟩
    show k0_pay12 (F := Ideal) i y (ix2 r _) ≠ _
    rw [hb.val]; exact hb.some k hk5
  have := Finset.card_le_card hsub
  rwa [Finset.card_image_of_injective _ (fun a b e => by simpa using e), Finset.card_range] at this

include hg hb in
theorem max_step : k0_pay13 (F := Ideal) i y (head1 g.m) (ix2 r 0) = mx s (n + 8192) := by
  rw [pay13_row, mx_add]
  have e : (head1 g.m (ix2 r (0 : Fin 1)) : EReal) = mx s n := hg.max
  rw [e]
  refine congrArg (fun f : Fin 8192 → EReal => max (mx s n) ((Finset.univ : Finset (Fin 8192)).fold max ⊥ f)) (funext fun k => hb.val k)

include hs hg hb in
theorem sum_step : k0_pay14 (F := Ideal) i y (head1 g.m) (head1 g.s) (ix2 r 0) = (sm s (n + 8192) : EReal) := by
  rw [pay14_row, max_step hg hb]
  have e : (head1 g.m (ix2 r (0 : Fin 1)) : EReal) = mx s n := hg.max
  have e' : (head1 g.s (ix2 r (0 : Fin 1)) : EReal) = (sm s n : EReal) := hg.sum
  rw [e, e', ← sm_add hs n 8192 (by decide)]
  refine congrArg (fun z : EReal => (sm s n : EReal) * Ideal.exp (mx s n - mx s (n + 8192)) + z) (Finset.sum_congr rfl fun k _ => ?_)
  rw [hb.val]

include hg hb in
theorem top_step : TopList s (ins s (n + 8192)) (cols5 (topAt (F := Ideal) i y g).2.1 r) ∧
    ∀ j : Fin 5, (topAt (F := Ideal) i y g).1 (ix2 r j) = s ((topAt (F := Ideal) i y g).2.1 (ix2 r j)).toNat := by
  have h := topK_row hg.top hg.row hb.rowOf hb.card
  rw [hb.live_eq] at h
  exact h

theorem spread_self {α : Type} (x : S32x1.Idx → α) (r : Fin 32) (k : Fin 128) :
    broadcastTo S32x128 (shapeCast S32x1 x shapeCasts_S32x1_S32x1) broadcasts_S32x1_S32x128 (ix2 r k) = x (ix2 r 0) := by
  rw [shapeCast_self]
  exact spread_apply (n := 128) broadcasts_S32x1_S32x128 x r k

theorem pay16_eq (x : FVec Ideal S32x128 .f32) : k0_pay16 (F := Ideal) x = x := shapeCast_self x shapeCasts_S32x128_S32x128

theorem pay1_eq (x : FVec Ideal S32x128 .f32) : k0_pay1 (F := Ideal) x = x := shapeCast_self x shapeCasts_S32x128_S32x128

theorem pay17_apply (x : FVec Ideal S32x1 .f32) : k0_pay17 (F := Ideal) x (ix2 r (0 : Fin 128)) = x (ix2 r 0) :=
  (congrFun (shapeCast_self (broadcastTo S32x128 (shapeCast S32x1 x shapeCasts_S32x1_S32x1) broadcasts_S32x1_S32x128) shapeCasts_S32x128_S32x128) _).trans
    (spread_self x r 0)

theorem next_m : (nextSt (F := Ideal) i y g).m (ix2 r (0 : Fin 128)) = k0_pay13 (F := Ideal) i y (head1 g.m) (ix2 r 0) := by
  refine (congrFun (pay16_eq (k0_pay15 (F := Ideal) i y (head1 g.m))) (ix2 r (0 : Fin 128))).trans ?_
  exact spread_self (k0_pay13 (F := Ideal) i y (head1 g.m)) r 0

theorem next_s : (nextSt (F := Ideal) i y g).s (ix2 r (0 : Fin 128)) = k0_pay14 (F := Ideal) i y (head1 g.m) (head1 g.s) (ix2 r 0) :=
  pay17_apply (k0_pay14 (F := Ideal) i y (head1 g.m) (head1 g.s))

theorem pad_apply {α : Type} (x : S32x5.Idx → α) (z : S32x123.Idx → α) (j : S32x5.Idx) :
    concatenate S32x128 1 [⟨S32x5, x⟩, ⟨S32x123, z⟩] concatenates_S32x5_S32x123_S32x128_d1
      (ix2 (j 0) ((j 1).castLE (by decide) : Fin 128)) = x j := by
  refine concatenate_pair_apply_left (t := S32x128) 1 x z _ _ rfl j fun c => ?_
  match c with
  | ⟨0, _⟩ => rfl
  | ⟨1, _⟩ => rfl

theorem next_tv : head5 (nextSt (F := Ideal) i y g).tv = (topAt (F := Ideal) i y g).1 := by
  funext j
  refine (congrFun (pay1_eq (topAt (F := Ideal) i y g).2.2) (ix2 (j 0) ((j 1).castLE (by decide) : Fin 128))).trans ?_
  exact pad_apply (topAt (F := Ideal) i y g).1 _ j

theorem pay2_eq (x : IVec S32x5 32) : k0_pay2 x
    = concatenate S32x128 1 [⟨S32x5, x⟩, ⟨S32x123, broadcast S32x123 2147483647#32⟩] concatenates_S32x5_S32x123_S32x128_d1 :=
  shapeCast_self _ shapeCasts_S32x128_S32x128

theorem next_ti : head5 (nextSt (F := Ideal) i y g).ti = (topAt (F := Ideal) i y g).2.1 := by
  funext j
  refine (congrFun (pay2_eq (topAt (F := Ideal) i y g).2.1) (ix2 (j 0) ((j 1).castLE (by decide) : Fin 128))).trans ?_
  exact pad_apply (topAt (F := Ideal) i y g).2.1 _ j

include hs hg hb in
/-- A point carries the invariant over its block. -/
theorem Inv.step : Inv s r (n + 8192) (nextSt (F := Ideal) i y g) := by
  obtain ⟨l, w⟩ := top_step hg hb
  have hS : ∀ v ∈ ins s (n + 8192), s v ≠ ⊥ ∧ v < 2147483648 := fun v hv => by
    have := mem_ins.1 hv
    have := hb.small
    exact ⟨(mem_ins.1 hv).2, by omega⟩
  obtain ⟨e, o⟩ := live_five l w hS
  refine ⟨next_m.trans (max_step hg hb), next_s.trans (sum_step hs hg hb), ?_, ?_⟩
  · rw [next_tv, next_ti, e]
    exact l.topSet rfl
  · rw [next_tv, next_ti]
    exact o

/-- The state the first point sets has seen no columns. -/
theorem Inv.start (s : ℕ → EReal) (r : Fin 32) : Inv s r 0 (initSt (F := Ideal)) := by
  have em : ∀ j, k0_pay6 (F := Ideal) j = (⊥ : EReal) := fun j => by
    refine (congrFun (shapeCast_self (broadcast S32x128 (Scalar.ofBits .f32 0xFF800000#32 : Ideal .f32)) shapeCasts_S32x128_S32x128) j).trans bits_ninf
  have es : ∀ j, k0_pay7 (F := Ideal) j = (0 : EReal) := fun j => by
    refine (congrFun (shapeCast_self (broadcast S32x128 (Scalar.ofBits .f32 0x00000000#32 : Ideal .f32)) shapeCasts_S32x128_S32x128) j).trans ?_
    show Ideal.ofBits .f32 0x00000000#32 = 0
    simp [Ideal.ofBits, Ideal.ieee]
  have ev : ∀ j, k0_pay8 (F := Ideal) j = (⊥ : EReal) := fun j => by
    refine (congrFun (shapeCast_self (broadcast S32x128 (Scalar.ofBits .f32 0xFF800000#32 : Ideal .f32)) shapeCasts_S32x128_S32x128) j).trans bits_ninf
  have ei : ∀ j, k0_pay9 j = 2147483647#32 := fun j =>
    congrFun (shapeCast_self (broadcast S32x128 2147483647#32) shapeCasts_S32x128_S32x128) j
  refine ⟨(em (ix2 r 0)).trans (by simp [mx]), (es (ix2 r 0)).trans (by simp [sm]), ?_,
    ⟨fun k hk => absurd (ev (ix2 r (k.castLE (by decide)))) hk, fun k => ?_⟩⟩
  · have e1 : ins s 0 = ∅ := by
      ext v
      rw [mem_ins]
      simp
    have e2 : rowLive (n := 5) (head5 (initSt (F := Ideal)).ti) (head5 (initSt (F := Ideal)).tv) r = ∅ := by
      ext v
      unfold rowLive
      rw [mem_live]
      constructor
      · rintro ⟨k, hk, -⟩
        exact absurd (ev (ix2 r (k.castLE (by decide)))) hk
      · intro hv
        exact absurd hv (Finset.notMem_empty v)
    rw [e1, e2]
    exact TopSet.empty
  · exact lt_of_eq_of_lt (congrArg BitVec.toNat (ei (ix2 r (k.castLE (by decide))))) (by decide)

end Step

/-! ## Every block -/

/-- Every score of a column of the vocabulary is a real number. -/
structure Real0 (s : ℕ → EReal) : Prop where
  top : ∀ v, s v ≠ ⊤
  bot : ∀ v < 1000000, s v ≠ ⊥
  out : ∀ v, 1000000 ≤ v → s v = ⊥

theorem Real0.fin0 {s : ℕ → EReal} (h : Real0 s) : Fin0 s := ⟨h.top, h.bot 0 (by decide)⟩

theorem pay11_toNat (t : Fin grid0.N) (r : Fin 32) (k : Fin 8192) : (k0_pay11 (grid0.coords t) (ix2 r k)).toNat = t.val * 8192 + k.val := by
  have ht : t.val < 123 := lt_of_lt_of_eq t.isLt N_0
  have ec : (grid0.coords t 0).val = t.val := coords_val t
  have hk := k.isLt
  have hw : k0_pay11 (grid0.coords t) (ix2 r k) = BitVec.ofNat 32 ((grid0.coords t 0).val * 8192 + k.val) := by
    show IntOp.addi (Scalar.muli (BitVec.ofNat 32 (grid0.coords t 0).val) 8192#32) (iota .tc S32x8192 32 [1] iota_S32x8192_d1_w32 (ix2 r k)) = _
    rw [iota_single_apply, base_eq]
    show BitVec.ofNat 32 _ + BitVec.ofNat 32 _ = _
    rw [← BitVec.ofNat_add]
  rw [hw, ec]
  exact toNat_small _ (by omega)

variable (r : Fin 32) (hr : Real0 (sc (lg m c) (ids m c) r))

include hr in
theorem blk (t : Fin grid0.N) : Blk (sc (lg m c) (ids m c) r) r (t.val * 8192) (grid0.coords t) (yAt m c t) := by
  have ht : t.val < 123 := lt_of_lt_of_eq t.isLt N_0
  exact ⟨fun k => pay12_sc m c t r k, fun k => pay11_toNat t r k, by omega, fun k hk => hr.bot _ (by omega)⟩

include hr in
theorem inv (n : ℕ) (hn : n ≤ 123) : Inv (sc (lg m c) (ids m c) r) r (n * 8192) (stateAt m c n) := by
  induction n with
  | zero => exact Inv.start _ r
  | succ n ih =>
    have hlt : n < grid0.N := by rw [N_0]; omega
    rw [stateAt_succ m c ⟨n, hlt⟩, Nat.succ_mul]
    exact Inv.step hr.fin0 (ih (by omega)) (blk m c r hr ⟨n, hlt⟩)

theorem ins_all {s : ℕ → EReal} (h : Real0 s) : ins s (122 * 8192 + 8192) = Finset.range 1000000 := by
  ext v
  rw [mem_ins, Finset.mem_range]
  constructor
  · rintro ⟨-, h2⟩
    by_contra hv
    exact h2 (h.out v (by omega))
  · intro hv
    exact ⟨by omega, h.bot v hv⟩

theorem outI_apply (i : grid0.Coords) (y : FVec Ideal S32x8192 .f32) (g : St Ideal) (j : Fin 5) :
    outI (F := Ideal) i y g (ix2 r (j.castLE (by decide) : Fin 8)) = (topAt (F := Ideal) i y g).2.1 (ix2 r j) := by
  refine concatenate_pair_apply_left (t := S32x8) 1 (topAt (F := Ideal) i y g).2.1 _ concatenates_S32x5_S32x3_S32x8_d1 _ rfl (ix2 r j) fun c => ?_
  match c with
  | ⟨0, _⟩ => rfl
  | ⟨1, _⟩ => rfl

theorem outV_apply (i : grid0.Coords) (y : FVec Ideal S32x8192 .f32) (g : St Ideal) (j : Fin 5) :
    outV (F := Ideal) i y g (ix2 r (j.castLE (by decide) : Fin 8))
      = ((topAt (F := Ideal) i y g).1 (ix2 r j) - k0_pay13 (F := Ideal) i y (head1 g.m) (ix2 r 0) : EReal)
        - Ideal.log (k0_pay14 (F := Ideal) i y (head1 g.m) (head1 g.s) (ix2 r 0)) := by
  refine (concatenate_pair_apply_left (t := S32x8) 1 _ _ concatenates_S32x5_S32x3_S32x8_d1 _ rfl (ix2 r j) fun c => ?_).trans ?_
  · match c with
    | ⟨0, _⟩ => rfl
    | ⟨1, _⟩ => rfl
  · have e1 := spread_apply (n := 5) broadcasts_S32x1_S32x5 (k0_pay13 (F := Ideal) i y (head1 g.m)) r j
    have e2 := spread_apply (n := 5) broadcasts_S32x1_S32x5 (log (F := Ideal) (k0_pay14 (F := Ideal) i y (head1 g.m) (head1 g.s))) r j
    refine (congrArg (fun z : EReal => ((topAt (F := Ideal) i y g).1 (ix2 r j) - z : EReal) - _) e1).trans ?_
    exact congrArg (fun z : EReal => ((topAt (F := Ideal) i y g).1 (ix2 r j) - k0_pay13 (F := Ideal) i y (head1 g.m) (ix2 r 0) : EReal) - z) e2

/-- The log-softmax of the scores at column `v`. -/
def lsm (s : ℕ → EReal) (v : ℕ) : EReal := (s v - mx s 1000000) - Ideal.log (sm s 1000000 : EReal)

include hr in
/-- The kernel's columns are the row's first five, -/
theorem resI_top : TopList (sc (lg m c) (ids m c) r) (Finset.range 1000000)
    [(resI m c (ix2 r (0 : Fin 8))).toNat, (resI m c (ix2 r (1 : Fin 8))).toNat, (resI m c (ix2 r (2 : Fin 8))).toNat,
      (resI m c (ix2 r (3 : Fin 8))).toNat, (resI m c (ix2 r (4 : Fin 8))).toNat] := by
  have h := (top_step (inv m c r hr 122 (by decide)) (blk m c r hr tEnd)).1
  rw [ins_all hr] at h
  unfold cols5 at h
  have e := fun j : Fin 5 => outI_apply r (grid0.coords tEnd) (yAt m c tEnd) (stateAt m c 122) j
  rw [← e 0, ← e 1, ← e 2, ← e 3, ← e 4] at h
  exact h

include hr in
/-- and its values are their log-softmax. -/
theorem resV_eq (j : Fin 5) : resV m c (ix2 r (j.castLE (by decide) : Fin 8))
    = lsm (sc (lg m c) (ids m c) r) (resI m c (ix2 r (j.castLE (by decide) : Fin 8))).toNat := by
  have hi := inv m c r hr 122 (by decide)
  have hb := blk m c r hr tEnd
  have h := (top_step hi hb).2 j
  have e := outI_apply r (grid0.coords tEnd) (yAt m c tEnd) (stateAt m c 122) j
  refine (outV_apply r (grid0.coords tEnd) (yAt m c tEnd) (stateAt m c 122) j).trans ?_
  have hM := max_step hi hb
  have hS := sum_step hr.fin0 hi hb
  rw [hM, hS, h, ← e]
  have e1 : mx (sc (lg m c) (ids m c) r) (122 * 8192 + 8192) = mx (sc (lg m c) (ids m c) r) 1000000 :=
    mx_tail hr.fin0 (by decide) hr.out
  have e2 : sm (sc (lg m c) (ids m c) r) (122 * 8192 + 8192) = sm (sc (lg m c) (ids m c) r) 1000000 :=
    sm_tail hr.fin0 (by decide) hr.out
  have e3 : mx (sc (lg m c) (ids m c) r) (tEnd.val * 8192 + 8192) = mx (sc (lg m c) (ids m c) r) 1000000 := e1
  unfold lsm
  rw [← e1, ← e2]
  rfl

end Cert.Proof.KI

end
-- ==== Proof.Ref.Scores.lean ====
/-
  The reference's scores, entry by entry: ids in the vocabulary are not wrapped and all name columns, so the scatter sets the
  penalised logit at each row's tokens and leaves the other logits.
-/
module

public import proofs.«01_k».proof.Proof.Ref.Terms
public import proofs.«01_k».proof.Proof.Ref.Penalty
public import proofs.«01_k».proof.Proof.KI.Value
public import Idealize.ShloMosaic.Lib.Routing.OpsSet

@[expose] public section

noncomputable section

namespace Cert.Proof.Ref

open Cert.ReferenceIdeal Cert.ReferenceIdeal.Gen
open Idealize.ShloMosaic Idealize.ShloMosaic.ValueIdx Idealize.ShloMosaic.Routing

variable (L : FVec Ideal S32x1000000 .f32) (X : IVec S32x200 32) (hX : ∀ j, (X j).toNat < 1000000)

include hX in
theorem wrapped_eq : wrapped X = X := by
  funext j
  exact wrap_of_lt (X j) (IntOp.addi (X j) 1000000#32) (by have := hX j; omega)

include hX in
theorem starts_apply (r : Fin 32) (q : Fin 200) (u : Fin 1) : starts X (ix3 r q u) = X (ix2 r q) := by
  unfold starts
  rw [wrapped_eq X hX]
  refine shapeCast_apply X _ _ (ix2 r q) ?_
  have hu := u.isLt
  rw [Shape.rowMajor_val_two, Shape.rowMajor_val_three]
  show r.val * 200 + q.val = (r.val * 200 + q.val) * 1 + u.val
  omega

theorem foldl_andi {ι : Type} (l : List ι) (f : ι → BitVec 1) (hf : ∀ i, f i = 1#1) :
    l.foldl (fun r i => IntOp.andi r (f i)) 1#1 = 1#1 := by
  induction l with
  | nil => rfl
  | cons a l ih =>
    rw [List.foldl_cons, hf]
    exact ih

include hX in
/-- Every id names a column. -/
theorem inside_eq (j : S32x200.Idx) : inside X j = 1#1 := by
  unfold inside
  rw [Host.reduce_eq_foldl]
  refine foldl_andi _ _ fun i => ?_
  obtain ⟨r, q, u, rfl⟩ : ∃ (r : Fin 32) (q : Fin 200) (u : Fin 1), i = ix3 r q u := ⟨i 0, i 1, i 2, eq_ix3 i⟩
  show IntOp.andi (IntOp.cmpi .sge (starts X (ix3 r q u)) 0#32) (IntOp.cmpi .sle (starts X (ix3 r q u)) 999999#32) = 1#1
  rw [starts_apply X hX]
  have h := hX (ix2 r q)
  have e1 : IntOp.cmpi .sge (X (ix2 r q)) 0#32 = 1#1 := by
    simp only [IntOp.cmpi, BitVec.sle, BitVec.toInt, BitVec.toNat_ofNat]
    rw [decide_eq_true (by split <;> omega)]; rfl
  have e2 : IntOp.cmpi .sle (X (ix2 r q)) 999999#32 = 1#1 := by
    simp only [IntOp.cmpi, BitVec.sle, BitVec.toInt, BitVec.toNat_ofNat]
    rw [decide_eq_true (by split <;> omega)]; rfl
  rw [e1, e2]; rfl

theorem select_one {α : Type} {c : BitVec 1} (h : c = 1#1) (a b : α) : Scalar.select c a b = a := by
  subst h; rfl

theorem select_at {s : Shape} {α : Type} (c : IVec s 1) (a b : s.Idx → α) (j : s.Idx) (h : c j = 1#1) : select c a b j = a j :=
  select_one h (a j) (b j)

include hX in
theorem taken_gather (j : S32x200.Idx) : taken L X j = Host.gather gather_S32x1000000_S32x200x1_S32x200_n_1_0_0_1_2_11 L (starts X) j :=
  select_at (inside X) _ _ j (inside_eq X hX j)

include hX in
/-- The gather reads each row's logits at the row's ids. -/
theorem taken_apply (r : Fin 32) (q : Fin 200) : taken L X (ix2 r q) = L (ix2 r ⟨(X (ix2 r q)).toNat, hX _⟩) := by
  refine (taken_gather L X hX (ix2 r q)).trans ?_
  have h := hX (ix2 r q)
  unfold Host.gather
  have hi : (X (ix2 r q)).toInt.toNat = (X (ix2 r q)).toNat := by
    rw [BitVec.toInt_eq_toNat_of_lt (by omega)]; rfl
  have hs : gather_S32x1000000_S32x200x1_S32x200_n_1_0_0_1_2_11.siIdx (ix2 r q) ⟨0, by decide⟩ = ix3 r q (0 : Fin 1) := by
    funext b
    match b with
    | ⟨0, _⟩ => rfl
    | ⟨1, _⟩ => rfl
    | ⟨2, _⟩ => rfl
  refine congrArg L (funext fun a => Fin.ext ?_)
  match a with
  | ⟨0, _⟩ =>
    show gather_S32x1000000_S32x200x1_S32x200_n_1_0_0_1_2_11.start (ix2 r q) (starts X) 0
      + gather_S32x1000000_S32x200x1_S32x200_n_1_0_0_1_2_11.batchCoord (ix2 r q) 0
      + gather_S32x1000000_S32x200x1_S32x200_n_1_0_0_1_2_11.offCoord (ix2 r q) 0 = r.val
    rw [GatherDims.start_batching _ _ _ _ (List.mem_singleton.2 rfl)]
    show 0 + r.val + 0 = r.val
    omega
  | ⟨1, _⟩ =>
    have h1 : gather_S32x1000000_S32x200x1_S32x200_n_1_0_0_1_2_11.start (ix2 r q) (starts X) 1
        = min (starts X (gather_S32x1000000_S32x200x1_S32x200_n_1_0_0_1_2_11.siIdx (ix2 r q) ⟨0, by decide⟩)).toInt.toNat 999999 := rfl
    show gather_S32x1000000_S32x200x1_S32x200_n_1_0_0_1_2_11.start (ix2 r q) (starts X) 1
      + gather_S32x1000000_S32x200x1_S32x200_n_1_0_0_1_2_11.batchCoord (ix2 r q) 1
      + gather_S32x1000000_S32x200x1_S32x200_n_1_0_0_1_2_11.offCoord (ix2 r q) 1 = (X (ix2 r q)).toNat
    rw [h1, hs, starts_apply X hX, hi]
    show min (X (ix2 r q)).toNat 999999 + 0 + 0 = _
    omega

/-- The update at each id is the blend of its logit. -/
theorem updates_apply (g : FVec Ideal S32x200 .f32) (j : S32x200.Idx) : updates g j = blend (g j) := rfl

theorem rowIds_apply (r : Fin 32) (q : Fin 200) (u : Fin 1) : rowIds (ix3 r q u) = BitVec.ofNat 32 r.val := by
  have hr := r.isLt
  have e : rowIds (ix3 r q u) = Scalar.select (IntOp.cmpi .slt (BitVec.ofNat 32 r.val) 0#32) (IntOp.addi (BitVec.ofNat 32 r.val) 32#32)
      (BitVec.ofNat 32 r.val) := rfl
  rw [e]
  exact wrap_of_lt _ _ (by rw [BitVec.toNat_ofNat]; omega)

include hX in
theorem colIds_apply (r : Fin 32) (q : Fin 200) (u : Fin 1) : colIds X (ix3 r q u) = X (ix2 r q) := by
  unfold colIds
  rw [wrapped_eq X hX]
  refine broadcastInDim_apply _ _ X _ (ix2 r q) fun a => ?_
  match a with
  | ⟨0, _⟩ => rfl
  | ⟨1, _⟩ => rfl

theorem pairs_row (r : Fin 32) (q : Fin 200) : pairs X (ix3 r q (0 : Fin 2)) = BitVec.ofNat 32 r.val := by
  refine (concatenate_pair_apply_left (t := S32x200x2) 2 rowIds (colIds X) concatenates_S32x200x1_S32x200x1_S32x200x2_d2 _ rfl
    (ix3 r q (0 : Fin 1)) fun c => ?_).trans (rowIds_apply r q 0)
  match c with
  | ⟨0, _⟩ => rfl
  | ⟨1, _⟩ => rfl
  | ⟨2, _⟩ => rfl

include hX in
theorem pairs_col (r : Fin 32) (q : Fin 200) : pairs X (ix3 r q (1 : Fin 2)) = X (ix2 r q) := by
  refine (concatenate_pair_apply_right (t := S32x200x2) 2 rowIds (colIds X) concatenates_S32x200x1_S32x200x1_S32x200x2_d2 _ rfl rfl
    (ix3 r q (0 : Fin 1)) (fun c hc => ?_) rfl).trans (colIds_apply X hX r q 0)
  match c with
  | ⟨0, _⟩ => rfl
  | ⟨1, _⟩ => rfl
  | ⟨2, _⟩ => exact absurd rfl hc

include hX in
/-- Update `(r, q)` lands at its row and its id's column. -/
theorem lands (r r' : Fin 32) (q : Fin 200) (v : Fin 1000000) :
    scatter_S32x1000000_S32x200x2_S32x200_n_01_01_2.resultIdx? (ix2 r' q) (pairs X) = some (ix2 r v) ↔ r' = r ∧ (X (ix2 r' q)).toNat = v.val := by
  have h := hX (ix2 r' q)
  have hr := r'.isLt
  refine (scatter_lands2 (R := 32) (C := 1000000) (A := 32) (B := 200) scatter_S32x1000000_S32x200x2_S32x200_n_01_01_2 rfl rfl rfl (pairs X) r' q r v).trans ?_
  rw [pairs_row, pairs_col X hX, BitVec.toInt_eq_toNat_of_lt (by rw [BitVec.toNat_ofNat]; omega), BitVec.toInt_eq_toNat_of_lt (by omega), BitVec.toNat_ofNat,
    Nat.mod_eq_of_lt (by omega), Fin.ext_iff]
  omega

include hX in
/-- The scores: the penalised logit at the row's tokens, the logit elsewhere. -/
theorem scores_apply (hL : ∀ j, ∃ x : ℝ, L j = (x : EReal)) (r : Fin 32) (v : Fin 1000000) :
    scores L X (ix2 r v) = KI.sc L X r v.val := by
  classical
  unfold KI.sc
  rw [dif_pos v.isLt]
  by_cases h : ∃ q : Fin 200, (X (ix2 r q)).toNat = v.val
  · obtain ⟨q, hq⟩ := h
    refine Eq.trans ?_ (if_pos ⟨q, hq⟩).symm
    refine scatter_set_hit _ _ _ _ (ix2 r v) _ (fun k hk => ?_) (ix2 r q) ((lands X hX r r q v).2 ⟨rfl, hq⟩)
    obtain ⟨r', q', rfl⟩ : ∃ (r' : Fin 32) (q' : Fin 200), k = ix2 r' q' := ⟨k 0, k 1, eq_ix2 k⟩
    obtain ⟨rfl, hv⟩ := (lands X hX r r' q' v).1 hk
    rw [updates_apply, taken_apply L X hX]
    have e : (⟨(X (ix2 r' q')).toNat, hX _⟩ : Fin 1000000) = v := Fin.ext hv
    rw [e]
    obtain ⟨x, hx⟩ := hL (ix2 r' v)
    exact (congrArg blend hx).trans ((blend_real x).trans (congrArg (KI.pen (F := Ideal)) hx.symm))
  · refine Eq.trans ?_ (if_neg h).symm
    refine scatter_set_miss _ _ _ _ (ix2 r v) fun k hk => ?_
    obtain ⟨r', q', rfl⟩ : ∃ (r' : Fin 32) (q' : Fin 200), k = ix2 r' q' := ⟨k 0, k 1, eq_ix2 k⟩
    obtain ⟨rfl, hv⟩ := (lands X hX r r' q' v).1 hk
    exact h ⟨q', hv⟩

end Cert.Proof.Ref

end
-- ==== Proof.Ref.Sorted.lean ====
/-
  A stable descending sort of numbered scores, read at its first five positions, is the five best columns in order: greater
  first and equal scores by column.
-/
module

public import proofs.«01_k».proof.Proof.Top
public import Idealize.ShloMosaic.Lib.SortFacts

@[expose] public section

namespace Cert.Proof.Ref

open Idealize.ShloMosaic Cert.Proof.Top

variable {α : Type} [LinearOrder α] (s : ℕ → α) {n : ℕ} (R : Fin n → Fin n → Bool) (hR : ∀ k k', R k k' = decide (s k'.val < s k.val))

include hR in
/-- Inserting a column before later ones keeps a list in order. -/
theorem insert_ordered (a : Fin n) (l : List (Fin n)) (ha : ∀ b ∈ l, a.val < b.val) (hl : l.Pairwise fun b c => Bf s b.val c.val) :
    (insertBefore R a l).Pairwise fun b c => Bf s b.val c.val := by
  induction l with
  | nil => exact List.pairwise_singleton _ _
  | cons b l ih =>
    have hb := List.pairwise_cons.1 hl
    unfold insertBefore
    by_cases h : s a.val < s b.val
    · rw [if_pos (by rw [hR]; exact decide_eq_true h)]
      refine List.pairwise_cons.2 ⟨fun c hc => ?_, ih (fun c hc => ha c (List.mem_cons_of_mem _ hc)) hb.2⟩
      rcases List.mem_cons.1 ((perm_insertBefore R a l).mem_iff.1 hc) with rfl | hc
      · exact .inl h
      · exact hb.1 c hc
    · rw [if_neg (by rw [hR]; simpa using h)]
      have hab : Bf s a.val b.val := by
        rcases lt_or_eq_of_le (not_lt.1 h) with h | h
        · exact .inl h
        · exact .inr ⟨h.symm, ha b List.mem_cons_self⟩
      refine List.pairwise_cons.2 ⟨fun c hc => ?_, hl⟩
      rcases List.mem_cons.1 hc with rfl | hc
      · exact hab
      · exact hab.trans (hb.1 c hc)

include hR in
/-- The sort of increasing columns is in order. -/
theorem sort_ordered (l : List (Fin n)) (hl : l.Pairwise fun a b => a.val < b.val) :
    (stableSort R l).Pairwise fun b c => Bf s b.val c.val := by
  induction l with
  | nil => exact List.Pairwise.nil
  | cons a l ih =>
    have h := List.pairwise_cons.1 hl
    exact insert_ordered s R hR a _ (fun b hb => h.1 b ((perm_stableSort R l).mem_iff.1 hb)) (ih h.2)

include hR in
/-- An earlier sorted position holds a better column. -/
theorem sorted_before (i j : Fin n) (h : i < j) : Bf s (sortedFrom R i).val (sortedFrom R j).val := by
  have hp := List.pairwise_iff_get.1 (sort_ordered s R hR (List.finRange n) (List.pairwise_lt_finRange n))
  exact hp (i.cast (length_sortPositions n R).symm) (j.cast (length_sortPositions n R).symm) h

include hR in
/-- The first five sorted positions hold the five best columns. -/
theorem sorted_five (h : 5 ≤ n) (p : Fin 5 → ℕ) (hp : ∀ j, p j = (sortedFrom R (j.castLE h)).val) :
    TopList s (Finset.range n) [p 0, p 1, p 2, p 3, p 4] := by
  have hb (i j : Fin 5) (hij : i < j) : Bf s (p i) (p j) := by
    rw [hp, hp]; exact sorted_before s R hR _ _ hij
  refine topList_of ?_ ?_ ?_
  · simp only [List.pairwise_cons, List.mem_cons, List.not_mem_nil, or_false, forall_eq_or_imp, forall_eq, List.Pairwise.nil, and_true,
      IsEmpty.forall_iff, implies_true]
    exact ⟨⟨hb 0 1 (by decide), hb 0 2 (by decide), hb 0 3 (by decide), hb 0 4 (by decide)⟩,
      ⟨hb 1 2 (by decide), hb 1 3 (by decide), hb 1 4 (by decide)⟩, ⟨hb 2 3 (by decide), hb 2 4 (by decide)⟩, hb 3 4 (by decide)⟩
  · have hm (j : Fin 5) : p j ∈ Finset.range n := by rw [hp]; exact Finset.mem_range.2 (Fin.isLt _)
    simp only [List.mem_cons, List.not_mem_nil, or_false, forall_eq_or_imp, forall_eq]
    exact ⟨hm 0, hm 1, hm 2, hm 3, hm 4⟩
  · intro x hx hn
    obtain ⟨k, hk⟩ := sortedFrom_surjective R ⟨x, Finset.mem_range.1 hx⟩
    have hkx : (sortedFrom R k).val = x := congrArg Fin.val hk
    have h5 : 5 ≤ k.val := by
      by_contra hlt
      apply hn
      have hj : p ⟨k.val, by omega⟩ = x := by rw [hp]; exact hkx
      have : k.val = 0 ∨ k.val = 1 ∨ k.val = 2 ∨ k.val = 3 ∨ k.val = 4 := by omega
      simp only [List.mem_cons, List.not_mem_nil, or_false]
      rcases this with e | e | e | e | e <;> simp only [e] at hj
      · exact .inl hj.symm
      · exact .inr (.inl hj.symm)
      · exact .inr (.inr (.inl hj.symm))
      · exact .inr (.inr (.inr (.inl hj.symm)))
      · exact .inr (.inr (.inr (.inr hj.symm)))
    have hm (j : Fin 5) : Bf s (p j) x := by
      rw [hp, ← hkx]
      exact sorted_before s R hR _ _ (Fin.lt_def.2 (lt_of_lt_of_le j.isLt h5))
    simp only [List.mem_cons, List.not_mem_nil, or_false, forall_eq_or_imp, forall_eq]
    exact ⟨hm 0, hm 1, hm 2, hm 3, hm 4⟩

end Cert.Proof.Ref
-- ==== Proof.Ref.TopRow.lean ====
/-
  The five greatest of each row of a table of 32 rows: values and columns read at the places of a stable sort of the row.
-/
module

public import Idealize.ShloMosaic.PureOps
public import Idealize.ShloMosaic.Lib.ValueIdx
public import Idealize.ShloMosaic.Lib.SortFacts

@[expose] public section

namespace Cert.Proof.Ref

open Idealize.ShloMosaic Idealize.ShloMosaic.ValueIdx

/-- A table of 32 rows. -/
abbrev Rows (n : ℕ) : Shape := ⟨2, ![32, n]⟩

variable {α : Type} {n : ℕ} (gt : α → α → BitVec 1) (T : (Rows n).Idx → α) (r : Fin 32)

/-- Which of two columns of row `r` the sort puts first. -/
def first (k k' : Fin n) : Bool := gt (T (ix2 r k)) (T (ix2 r k')) == 1#1

theorem along_row (q k : Fin n) : (ix2 r q : (Rows n).Idx).along (1 : Fin 2) k = ix2 r k := by
  funext a
  match a with
  | ⟨0, _⟩ => rfl
  | ⟨1, _⟩ => rfl

theorem along_first (q : Fin n) {β : Type} (y : (Rows n).Idx → β) :
    (fun k k' : Fin n => (fun l r : α × β => gt l.1 r.1) (T ((ix2 r q : (Rows n).Idx).along (1 : Fin 2) k), y ((ix2 r q : (Rows n).Idx).along (1 : Fin 2) k))
      (T ((ix2 r q : (Rows n).Idx).along (1 : Fin 2) k'), y ((ix2 r q : (Rows n).Idx).along (1 : Fin 2) k')) == 1#1) = first gt T r :=
  funext fun k => funext fun k' => congrArg₂ (fun a b : (Rows n).Idx => gt (T a) (T b) == 1#1) (along_row r q k) (along_row r q k')

theorem sort2_fst {β : Type} (y : (Rows n).Idx → β) (q : Fin n) :
    (Host.sort2 (Rows n) 1 (fun l r => gt l.1 r.1) T y).1 (ix2 r q) = T (ix2 r (sortedFrom (first gt T r) q)) :=
  (congrArg T (along_row r q _)).trans (congrArg (fun B : Fin n → Fin n → Bool => T (ix2 r (sortedFrom B q))) (along_first gt T r q y))

theorem sort2_snd {β : Type} (y : (Rows n).Idx → β) (q : Fin n) :
    (Host.sort2 (Rows n) 1 (fun l r => gt l.1 r.1) T y).2 (ix2 r q) = y (ix2 r (sortedFrom (first gt T r) q)) :=
  (congrArg y (along_row r q _)).trans (congrArg (fun B : Fin n → Fin n → Bool => y (ix2 r (sortedFrom B q))) (along_first gt T r q y))

theorem slice_five {β : Type} (h : (Rows n).Slices (fun _ => 0) (Rows 5)) (hn : 5 ≤ n) (y : (Rows n).Idx → β) (j : Fin 5) :
    extractStridedSlice (Rows 5) (fun _ => 0) y h (ix2 r j) = y (ix2 r (j.castLE hn)) := by
  refine congrArg y (funext fun a => Fin.ext ?_)
  match a with
  | ⟨0, _⟩ => exact Nat.zero_add _
  | ⟨1, _⟩ => exact Nat.zero_add _

/-- The values. -/
theorem topK_fst (h : (Rows n).Slices (fun _ => 0) (Rows 5)) (hn : 5 ≤ n) (j : Fin 5) :
    (Host.topK (Rows 5) 1 gt T h).1 (ix2 r j) = T (ix2 r (sortedFrom (first gt T r) (j.castLE hn))) :=
  (slice_five r h hn _ j).trans (sort2_fst gt T r (iotaInDim (Rows n) 32 1) _)

/-- The columns. -/
theorem topK_snd (h : (Rows n).Slices (fun _ => 0) (Rows 5)) (hn : 5 ≤ n) (j : Fin 5) :
    (Host.topK (Rows 5) 1 gt T h).2 (ix2 r j) = BitVec.ofNat 32 (sortedFrom (first gt T r) (j.castLE hn)).val :=
  (slice_five r h hn _ j).trans (sort2_snd gt T r (iotaInDim (Rows n) 32 1) _)

end Cert.Proof.Ref
-- ==== Proof.Ref.Softmax.lean ====
/-
  The reference's log-softmax, entry by entry, and its five greatest of each row: on real scores the log-softmax keeps the
  scores' order, so the five greatest are the five best columns of the scores.
-/
module

public import proofs.«01_k».proof.Proof.Ref.Terms
public import proofs.«01_k».proof.Proof.Ref.Sorted
public import proofs.«01_k».proof.Proof.Ref.TopRow
public import proofs.«01_k».proof.Proof.KI.Value

@[expose] public section

noncomputable section

namespace Cert.Proof.Ref

open Cert.ReferenceIdeal Cert.ReferenceIdeal.Gen
open Idealize.ShloMosaic Idealize.ShloMosaic.ValueIdx Cert.Proof.Top Cert.Proof.Soft
open Cert.Proof.KI (lsm Real0 bits_ninf)

variable (M : FVec Ideal S32x1000000 .f32) (s : ℕ → EReal) (r : Fin 32) (hM : ∀ v : Fin 1000000, M (ix2 r v) = s v.val)

section Rows

variable {n : ℕ} (h' : (⟨2, ![32, n]⟩ : Shape).ReducesTo [1] S32) (h : (⟨2, ![32, n]⟩ : Shape).Reduces [1] S32)
  (x : FVec Ideal ⟨2, ![32, n]⟩ .f32) (i : Fin 32) (f : ℕ → EReal) (hf : ∀ k : Fin n, x (ix2 i k) = f k.val)

theorem lift_at (j : S32.Idx) (k : Fin n) : h.lift j k = ix2 (j 0) k := by
  funext a
  match a with
  | ⟨0, _⟩ => rfl
  | ⟨1, _⟩ => rfl

include h hf in
/-- A host maximum over each row, from minus infinity. -/
theorem host_max : Host.reduce FloatOps.maximumf x (constant (F := Ideal) S_ .f32 0xFF800000#32) h' h_S_ (ix1 i) = mx f n := by
  refine (Host.reduce_eq_fold_single (max : EReal → EReal → EReal) x (constant (F := Ideal) S_ .f32 0xFF800000#32) h' h h_S_ (ix1 i)).trans ?_
  have e : (x ∘ h.lift (ix1 i)) = fun k : Fin n => f k.val := funext fun k => (congrArg x (lift_at h (ix1 i) k)).trans (hf k)
  exact (congrArg₂ (fun (b : EReal) (g : Fin n → EReal) => Finset.fold max b g Finset.univ) bits_ninf e).trans (fold_fin n)

include h hf in
/-- A host sum over each row, from zero. -/
theorem host_sum : Host.reduceAdd x (constant (F := Ideal) S_ .f32 0x00000000#32) h' h_S_ (ix1 i) = ∑ k : Fin n, f k.val := by
  refine (Ideal.hostReduceAdd_single h' h x (constant (F := Ideal) S_ .f32 0x00000000#32 (Shape.Idx.first h_S_)) (ix1 i)).trans ?_
  have e0 : (constant (F := Ideal) S_ .f32 0x00000000#32 (Shape.Idx.first h_S_) : EReal) = 0 := by
    show Ideal.ofBits .f32 0x00000000#32 = 0
    simp [Ideal.ofBits, Ideal.ieee]
  have e1 : (∑ k : Fin n, (x (h.lift (ix1 i) k) : EReal)) = ∑ k : Fin n, f k.val :=
    Finset.sum_congr rfl fun k _ => (congrArg x (lift_at h (ix1 i) k)).trans (hf k)
  exact (congrArg₂ (fun a b : EReal => a + b) e0 e1).trans (zero_add _)

include h in
/-- The sum of a row's exponentials. -/
theorem host_sumExp (hn : 0 < n) (hs : Fin0 f) (hx : ∀ k : Fin n, x (ix2 i k) = Ideal.exp (f k.val - mx f n)) :
    Host.reduceAdd x (constant (F := Ideal) S_ .f32 0x00000000#32) h' h_S_ (ix1 i) = (sm f n : EReal) :=
  (host_sum h' h x i (fun k => Ideal.exp (f k - mx f n)) hx).trans (sum_fin hs hn)

end Rows

/-- The maximum with minus infinity of a vector's entry is the entry. -/
theorem max_ninf (y : FVec Ideal S32 .f32) (j : S32.Idx) (z : EReal) (h : y j = z) :
    maximumf (broadcastInDim S32 ![] bcast_S_S32 (constant (F := Ideal) S_ .f32 0xFF800000#32)) y j = z :=
  (congrArg₂ (fun a b : EReal => max a b) bits_ninf h).trans (max_eq_right bot_le)

theorem exp_at (y : FVec Ideal S32x1000000 .f32) (j : S32x1000000.Idx) (z : EReal) (h : y j = z) : Host.exp y j = Ideal.exp z :=
  congrArg Ideal.exp h

theorem log_at (y : FVec Ideal S32x1 .f32) (j : S32x1.Idx) (z : EReal) (h : y j = z) : Host.log y j = Ideal.log z := congrArg Ideal.log h

theorem sub_at (y y' : FVec Ideal S32x1000000 .f32) (j : S32x1000000.Idx) (z z' : EReal) (h : y j = z) (h' : y' j = z') :
    subf y y' j = (z - z' : EReal) := congrArg₂ (fun a b : EReal => a - b) h h'

theorem reduces : S32x1000000.Reduces [1] S32 := by decide

theorem sub_eq {a b a' b' : EReal} (h : a = a') (h' : b = b') : a - b = a' - b' := by rw [h, h']

theorem column_apply (u : FVec Ideal S32 .f32) (z : Fin 1) : column u (ix2 r z) = u (ix1 r) := by
  unfold column
  refine broadcastInDim_apply _ _ u _ (ix1 r) fun a => ?_
  match a with
  | ⟨0, _⟩ => rfl

theorem along_apply (u : FVec Ideal S32x1 .f32) (v : Fin 1000000) : along u (ix2 r v) = u (ix2 r 0) := by
  unfold along
  refine broadcastInDim_apply _ _ u _ (ix2 r 0) fun a => ?_
  match a with
  | ⟨0, _⟩ => rfl
  | ⟨1, _⟩ => rfl

include hM in
theorem tops_apply : tops M (ix1 r) = mx s 1000000 := by
  unfold tops
  exact max_ninf _ _ _ (host_max reducesTo_S32x1000000_S32_d1 reduces M r s hM)

include hM in
theorem shifted_apply (v : Fin 1000000) : shifted M (ix2 r v) = (s v.val - mx s 1000000 : EReal) := by
  unfold shifted
  refine sub_at _ _ _ _ _ (hM v) ?_
  exact (along_apply r (column (tops M)) v).trans ((column_apply r (tops M) 0).trans (tops_apply M s r hM))

include hM in
theorem sums_apply (hs : Fin0 s) : sums M (ix1 r) = (sm s 1000000 : EReal) := by
  unfold sums
  exact host_sumExp reducesTo_S32x1000000_S32_d1 reduces (Host.exp (shifted M)) r s (Nat.succ_pos _) hs
    (fun k => exp_at _ _ _ (shifted_apply M s r hM k))

include hM in
/-- The reference's log-softmax is the log-softmax of the row's scores. -/
theorem logSoft_apply (hs : Fin0 s) (v : Fin 1000000) : logSoft M (ix2 r v) = lsm s v.val := by
  unfold logSoft lsm
  refine sub_at _ _ _ _ _ (shifted_apply M s r hM v) ?_
  refine (along_apply r (Host.log (column (sums M))) v).trans ?_
  exact log_at _ _ _ ((column_apply r (sums M) 0).trans (sums_apply M s r hM hs))

/-- On real scores the log-softmax keeps the order. -/
theorem lsm_lt (hs : Real0 s) {a b : ℕ} (ha : a < 1000000) (hb : b < 1000000) : lsm s a < lsm s b ↔ s a < s b := by
  have hm := mx_real hs.fin0 (n := 1000000) (by decide)
  have hp := sm_pos hs.fin0 (n := 1000000) (by decide)
  have hl : Ideal.log (sm s 1000000 : EReal) = (Real.log (sm s 1000000) : EReal) := by
    exact (show Ideal.log (sm s 1000000 : EReal) = if sm s 1000000 ≤ 0 then ⊥ else (Real.log (sm s 1000000) : EReal) from rfl).trans
      (if_neg (not_le.2 hp))
  have hr (v : ℕ) (hv : v < 1000000) : s v = ((s v).toReal : EReal) := (EReal.coe_toReal (hs.top v) (hs.bot v hv)).symm
  unfold lsm
  rw [hl, ← hm, hr a ha, hr b hb, ← EReal.coe_sub, ← EReal.coe_sub, ← EReal.coe_sub, ← EReal.coe_sub, EReal.coe_lt_coe_iff, EReal.coe_lt_coe_iff]
  constructor <;> intro h <;> linarith

/-- The column the sort puts at place `j` of row `r`. -/
def place (T : FVec Ideal S32x1000000 .f32) (j : Fin 5) : Fin 1000000 :=
  sortedFrom (first (FloatOps.cmpfTotal (F := Ideal) (φ := .f32) .gt) T r) (j.castLE (Nat.le_of_ble_eq_true rfl))

theorem best_val (T : FVec Ideal S32x1000000 .f32) (j : Fin 5) : (best T).1 (ix2 r j) = T (ix2 r (place r T j)) :=
  topK_fst (FloatOps.cmpfTotal (F := Ideal) (φ := .f32) .gt) T r sliceFits_S32x1000000_S32x5 _ j

theorem best_idx (T : FVec Ideal S32x1000000 .f32) (j : Fin 5) : (best T).2 (ix2 r j) = BitVec.ofNat 32 (place r T j).val :=
  topK_snd (FloatOps.cmpfTotal (F := Ideal) (φ := .f32) .gt) T r sliceFits_S32x1000000_S32x5 _ j

theorem gt_eq (x y : EReal) : (FloatOps.cmpfTotal (F := Ideal) (φ := .f32) .gt x y == 1#1) = decide (y < x) := by
  have e : FloatOps.cmpfTotal (F := Ideal) (φ := .f32) .gt x y = BitVec.ofBool (decide (y < x)) := rfl
  rw [e]
  cases decide (y < x) <;> rfl

include hM in
/-- The five places of row `r`'s log-softmax are the row's five best columns of the scores. -/
theorem place_top (hs : Real0 s) : TopList s (Finset.range 1000000) [(place r (logSoft M) 0).val, (place r (logSoft M) 1).val,
    (place r (logSoft M) 2).val, (place r (logSoft M) 3).val, (place r (logSoft M) 4).val] := by
  refine sorted_five s (first (FloatOps.cmpfTotal (F := Ideal) (φ := .f32) .gt) (logSoft M) r) (fun k k' => ?_)
    (Nat.le_of_ble_eq_true rfl) (fun j => (place r (logSoft M) j).val) (fun j => rfl)
  refine (gt_eq (logSoft M (ix2 r k)) (logSoft M (ix2 r k'))).trans ?_
  rw [logSoft_apply M s r hM hs.fin0, logSoft_apply M s r hM hs.fin0]
  exact decide_eq_decide.2 (lsm_lt s hs k'.isLt k.isLt)

end Cert.Proof.Ref

end
-- ==== Proof.Same.lean ====
/-
  The kernel's two results are the reference's: both are the five best columns of each row's penalised scores, with their
  log-softmax.
-/
module

public import proofs.«01_k».proof.Proof.Ref.Scores
public import proofs.«01_k».proof.Proof.Ref.Softmax

@[expose] public section

noncomputable section

namespace Cert.Proof.Same

open Cert.KernelIdeal Cert.KernelIdeal.Gen
open Idealize.ShloMosaic Idealize.ShloMosaic.ValueIdx Idealize.ShloMosaic.TcCoe
open Cert.Proof.KI Cert.Proof.Top Cert.Proof.Ref

variable (m : (ℓ : Loc nD τ sig) → Buf (Elt Ideal) ℓ) (c : Dev nD)

/-- The launched ids of core `c`. -/
abbrev ix : IVec S32x200 32 := m ((c : Thread nD τ).loc main_arg1)

/-- A row has the same scores with its ids sorted. -/
theorem sc_sorted (r : Fin 32) : sc (lg m c) (ids m c) r = sc (lg m c) (ix m c) r := by
  classical
  have hmem (v : ℕ) : (∃ q : Fin 200, (ids m c (ix2 r q)).toNat = v) ↔ ∃ q : Fin 200, (ix m c (ix2 r q)).toNat = v := by
    have h (w : BitVec 32) : (∃ q : Fin 200, ids m c (ix2 r q) = w) ↔ ∃ q : Fin 200, ix m c (ix2 r q) = w := by
      rw [ids_eq]
      exact SortIds.sort_mem (ix m c) r w
    constructor
    · rintro ⟨q, rfl⟩
      obtain ⟨q', hq'⟩ := (h _).1 ⟨q, rfl⟩
      exact ⟨q', congrArg BitVec.toNat hq'⟩
    · rintro ⟨q, rfl⟩
      obtain ⟨q', hq'⟩ := (h _).2 ⟨q, rfl⟩
      exact ⟨q', congrArg BitVec.toNat hq'⟩
  funext v
  unfold sc
  by_cases hv : v < 1000000
  · rw [dif_pos hv, dif_pos hv]
    exact if_congr (hmem v) rfl rfl
  · rw [dif_neg hv, dif_neg hv]

variable (hL : ∀ j, ∃ x : ℝ, lg m c j = (x : EReal)) (hX : ∀ j, (ix m c j).toNat < 1000000)

include hL in
/-- Real logits have real scores. -/
theorem real0 (X : S32x200.Idx → BitVec 32) (r : Fin 32) : Real0 (sc (lg m c) X r) := by
  classical
  have hreal (v : ℕ) (hv : v < 1000000) : ∃ x : ℝ, sc (lg m c) X r v = (x : EReal) := by
    unfold sc
    rw [dif_pos hv]
    obtain ⟨x, hx⟩ := hL (ix2 r ⟨v, hv⟩)
    by_cases h : ∃ q : Fin 200, (X (ix2 r q)).toNat = v
    · exact ⟨_, (if_pos h).trans ((congrArg (pen (F := Ideal)) hx).trans (pen_real x))⟩
    · exact ⟨x, (if_neg h).trans hx⟩
  have hout (v : ℕ) (hv : 1000000 ≤ v) : sc (lg m c) X r v = ⊥ := by
    unfold sc
    exact dif_neg (by omega)
  refine ⟨fun v => ?_, fun v hv => ?_, hout⟩
  · by_cases hv : v < 1000000
    · obtain ⟨x, hx⟩ := hreal v hv
      rw [hx]
      exact EReal.coe_ne_top x
    · rw [hout v (by omega)]
      exact bot_ne_top
  · obtain ⟨x, hx⟩ := hreal v hv
    rw [hx]
    exact EReal.coe_ne_bot x

/-- The reference's log-softmax of core `c`'s scores. -/
abbrev soft : FVec Ideal S32x1000000 .f32 := logSoft (scores (lg m c) (ix m c))

include hL hX in
/-- The kernel's columns are the reference's places. -/
theorem cols_eq (r : Fin 32) (j : Fin 5) :
    (resI m c (ix2 r (j.castLE (by decide) : Fin 8))).toNat = (place r (soft m c) j).val := by
  have hr := real0 m c hL (ids m c) r
  have hk := resI_top m c r hr
  have hs := sc_sorted m c r
  have hp := place_top (scores (lg m c) (ix m c)) (sc (lg m c) (ids m c) r) r
    (fun v => (scores_apply (lg m c) (ix m c) hX hL r v).trans (congrFun hs.symm v.val)) hr
  have e := hk.unique hp (by simp only [List.length_cons, List.length_nil])
  simp only [List.cons.injEq, and_true] at e
  obtain ⟨e0, e1, e2, e3, e4⟩ := e
  match j with
  | ⟨0, _⟩ => exact e0
  | ⟨1, _⟩ => exact e1
  | ⟨2, _⟩ => exact e2
  | ⟨3, _⟩ => exact e3
  | ⟨4, _⟩ => exact e4

theorem slice_apply {α : Type} (x : S32x8.Idx → α) (r : Fin 32) (j : Fin 5) :
    extractStridedSlice S32x5 ![0, 0] x slices_S32x8_S32x5_0_0 (ix2 r j) = x (ix2 r (j.castLE (by decide) : Fin 8)) := by
  refine congrArg x (funext fun a => Fin.ext ?_)
  match a with
  | ⟨0, _⟩ => exact Nat.zero_add _
  | ⟨1, _⟩ => exact Nat.zero_add _

include hL hX in
/-- The kernel's second result is the reference's. -/
theorem indices : extractStridedSlice S32x5 ![0, 0] (resI m c) slices_S32x8_S32x5_0_0 = (best (soft m c)).2 := by
  funext i
  obtain ⟨r, j, rfl⟩ : ∃ (r : Fin 32) (j : Fin 5), i = ix2 r j := ⟨i 0, i 1, eq_ix2 i⟩
  refine (slice_apply _ r j).trans (Eq.trans ?_ (best_idx r (soft m c) j).symm)
  have h := cols_eq m c hL hX r j
  apply BitVec.eq_of_toNat_eq
  have hlt := (place r (soft m c) j).isLt
  rw [h, BitVec.toNat_ofNat]
  exact (Nat.mod_eq_of_lt (by omega)).symm

include hL hX in
/-- The kernel's first result is the reference's. -/
theorem values : extractStridedSlice S32x5 ![0, 0] (resV m c) slices_S32x8_S32x5_0_0 = (best (soft m c)).1 := by
  funext i
  obtain ⟨r, j, rfl⟩ : ∃ (r : Fin 32) (j : Fin 5), i = ix2 r j := ⟨i 0, i 1, eq_ix2 i⟩
  refine (slice_apply _ r j).trans (Eq.trans ?_ (best_val r (soft m c) j).symm)
  have hr := real0 m c hL (ids m c) r
  have hs := sc_sorted m c r
  refine (resV_eq m c r hr j).trans ?_
  refine (congrArg (lsm (sc (lg m c) (ids m c) r)) (cols_eq m c hL hX r j)).trans ?_
  exact (logSoft_apply (scores (lg m c) (ix m c)) (sc (lg m c) (ids m c) r) r
    (fun v => (scores_apply (lg m c) (ix m c) hX hL r v).trans (congrFun hs.symm v.val)) hr.fin0 (place r (soft m c) j)).symm

end Cert.Proof.Same

end
-- ==== Proof.Finite.lean ====
/-
  The precondition of the value claim: every logit is a real number and every id is a column.
-/
module

public import proofs.«01_k».proof.Defs
public import Idealize.ShloMosaic.Lib.Decide
public import Idealize.ShloMosaic.PureOps.Ideal.Laws

@[expose] public section

noncomputable section

namespace Cert.Proof.Finite

open Idealize.ShloMosaic

/-- The predicate's side conditions. -/
instance facts : Cert.Pre_finite_and_in_vocab.Facts where
  bcast_S_S32x1000000 := by decide
  bcast_S_S32x200 := by decide

open Cert.Pre_finite_and_in_vocab

theorem inf_eq : Ideal.ofBits .f32 0x7F800000#32 = (⊤ : EReal) := by
  simp [Ideal.ofBits, Ideal.ieee]

/-- The first output, all ones, says that every logit is a real number. -/
theorem real_of (x : FVec Ideal S32x1000000 .f32) (y : IVec S32x200 32) (h : (fn (F := Ideal) x y).1 = fun _ => 1#1) (j : S32x1000000.Idx) :
    ∃ a : ℝ, x j = (a : EReal) := by
  have hj : BitVec.ofBool (decide (max (x j : EReal) (-(x j : EReal)) < Ideal.ofBits .f32 0x7F800000#32)) = 1#1 := congrFun h j
  have hd : max (x j : EReal) (-(x j : EReal)) < ⊤ := by
    rw [inf_eq] at hj
    by_contra hn
    rw [decide_eq_false hn] at hj
    exact absurd hj (by decide)
  have ht : (x j : EReal) ≠ ⊤ := fun e => by
    have := (max_lt_iff.1 hd).1
    rw [e] at this
    exact lt_irrefl _ this
  have hb : (x j : EReal) ≠ ⊥ := fun e => by
    have := (max_lt_iff.1 hd).2
    rw [e, EReal.neg_bot] at this
    exact lt_irrefl _ this
  exact ⟨(x j : EReal).toReal, (EReal.coe_toReal ht hb).symm⟩

/-- The second output, all ones, says that every id is a column. -/
theorem ids_of (x : FVec Ideal S32x1000000 .f32) (y : IVec S32x200 32) (h : (fn (F := Ideal) x y).2 = fun _ => 1#1) (j : S32x200.Idx) :
    (y j).toNat < 1000000 := by
  have hj : IntOp.andi (IntOp.cmpi .sge (y j) 0#32) (IntOp.cmpi .slt (y j) 1000000#32) = 1#1 := congrFun h j
  have hand (a b : BitVec 1) : IntOp.andi a b = 1#1 → a = 1#1 ∧ b = 1#1 := by revert a b; decide
  have hbool (p : Bool) : BitVec.ofBool p = 1#1 → p = true := by cases p <;> decide
  obtain ⟨h1, h2⟩ := hand _ _ hj
  have k1 := hbool _ h1
  have k2 := hbool _ h2
  have := (y j).isLt
  simp only [BitVec.sle, BitVec.slt, decide_eq_true_eq, BitVec.toInt, BitVec.toNat_ofNat] at k1 k2
  split at k1 <;> omega

end Cert.Proof.Finite

end
-- ==== Proof.Algebraic.lean ====
/-
  From real logits and ids in the vocabulary, the idealized kernel and the idealized reference end with the same results.
-/
module

public import proofs.«01_k».proof.Proof.Same
public import proofs.«01_k».proof.Proof.Finite
public import proofs.«01_k».proof.Proof.KI.Frame
public import proofs.«01_k».proof.Proof.Ref.Terms

@[expose] public section

noncomputable section

namespace Cert.Proof

open Cert.KernelIdeal Cert.KernelIdeal.Gen
open Idealize.ShloMosaic Idealize.ShloMosaic.TcCoe Idealize.SL.Sem

/-- The idealized kernel runs from real logits and ids in the vocabulary, and leaves its arguments and the semaphores as
they were. -/
theorem frame_ki_finite : Cert.quiescent_KernelIdeal_pre_finite_and_in_vocab := fun m g hpre =>
  (θ_run Cert.KernelIdeal.defs _ _).mono (fun _ h => ⟨fun c => (h.1 c).2.2, h.2⟩)
    (KI.run (F := Ideal) m g fun c => KI.sorted_ids m c (Finite.ids_of _ _ (hpre c).2))

/-- Both programs run from agreeing arguments and end with equal values and equal indices. -/
theorem algebraic : Cert.algebraic_KernelIdeal_ReferenceIdeal_pre_finite_and_in_vocab := by
  intro m g m' g' hpre hag
  have hL (c : Dev nD) := Finite.real_of _ _ (hpre c).1
  have hX (c : Dev nD) := Finite.ids_of _ _ (hpre c).2
  refine ⟨fun c => extractStridedSlice S32x5 ![0, 0] (KI.resV m c) slices_S32x8_S32x5_0_0,
    fun c => extractStridedSlice S32x5 ![0, 0] (KI.resI m c) slices_S32x8_S32x5_0_0,
    (θ_run Cert.KernelIdeal.defs _ _).mono (fun _ h => h.1)
      (KI.run (F := Ideal) m g fun c => KI.sorted_ids m c (hX c)),
    (θ_run Cert.ReferenceIdeal.defs _ _).mono (fun _ h c => ⟨(h c).1.trans ?_, (h c).2.1.trans ?_, (h c).2.2⟩)
      (Cert.ReferenceIdeal.Value.run (F := Ideal) m' g')⟩
  · refine (Ref.values_eq m' c).trans (Eq.trans ?_ (Same.values m c (hL c) (hX c)).symm)
    exact congrArg (fun T => (Ref.best (Ref.logSoft T)).1) (congrArg₂ Ref.scores (hag c).1 (hag c).2)
  · refine (Ref.indices_eq m' c).trans (Eq.trans ?_ (Same.indices m c (hL c) (hX c)).symm)
    exact congrArg (fun T => (Ref.best (Ref.logSoft T)).2) (congrArg₂ Ref.scores (hag c).1 (hag c).2)

end Cert.Proof

end
-- ==== Proof.lean ====
/-
  The assembly: the frames of the kernel, of its idealization and of the idealized reference, that the idealization names
  its constant rightly, and that the idealized kernel and the idealized reference compute the same results.
-/
module

public import proofs.«01_k».proof.Defs
public import proofs.«01_k».proof.Proof.K.Frame
public import proofs.«01_k».proof.Proof.KI.Frame
public import proofs.«01_k».proof.Proof.Algebraic
public import proofs.«01_k».proof.Proof.Finite
public import proofs.«01_k».proof.Proof.Gen.ReferenceIdeal.Run
public import proofs.«01_k».proof.Proof.Gen.Pre_ids_in_vocab
public import Idealize.ShloMosaic.Lib.Quiescent

@[expose] public section

noncomputable section

namespace Cert.Proof

open Idealize.ShloMosaic Idealize.ShloMosaic.TcCoe Idealize.SL.Sem

/-- The reference runs, and leaves its arguments and the semaphores as they were. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's frame, from real logits and ids in the vocabulary: its frame from any memory says so. -/
theorem frame_ri_finite : Cert.quiescent_ReferenceIdeal_pre_finite_and_in_vocab := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The named constant is the exact reciprocal of the penalty's single-precision value. -/
theorem preserves : Cert.preserves_Kernel_KernelIdeal :=
  IdealRules.named_const.statement Cert.KernelIdeal.κ "pen_down" .f32 0x3F555555#32 ((4194304 / 5033165 : ℝ) : EReal) rfl

/-- Everything the certificate claims. -/
theorem claim : Cert.Claim :=
  ⟨Cert.Kernel.Gen.facts, Cert.KernelIdeal.Gen.facts, Cert.ReferenceIdeal.Gen.facts, Cert.Pre_ids_in_vocab.Gen.facts,
    Finite.facts, K.frame, KI.frame, frame_ki_finite, frame_ri, frame_ri_finite, preserves, algebraic⟩

end Cert.Proof

end
